-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S1024x1024 : Shape := ⟨2, ![1024, 1024]⟩
abbrev S4x512x1024 : Shape := ⟨3, ![4, 512, 1024]⟩
abbrev S4 : Shape := ⟨1, ![4]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 2
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S4x512x1024, .f32⟩
  | .local _ .vmem, ⟨5, _⟩ => ⟨S4x512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 3 20 bufScoped semScoped dmaSemScoped tileCredit tileCredit_eq_zero tileCredit_pos).withBarriers [(0, 2)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 2

abbrev nD : Nat := 16
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def k0_dev1 (d0 : Dev nD) : Nat :=
  let c0_i32_10 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9 : BitVec 32 := 8#32
  let v21 : BitVec 32 := Scalar.muli v9 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat
def k0_dev2 (d0 : Dev nD) : Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_14 : BitVec 32 := 8#32
  let v27 : BitVec 32 := Scalar.muli v2 c8_i32_14
  let v28 : BitVec 32 := Scalar.addi c0_i32_15 v27
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_16 : BitVec 32 := 4#32
  let v29 : BitVec 32 := Scalar.muli v10 c4_i32_16
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v31 : BitVec 32 := Scalar.muli v8 c1_i32_17
  let v32 : BitVec 32 := Scalar.addi v30 v31
  v32.toNat
def k0_cond2 (i : grid0.Coords) : BitVec 1 :=
  let arg0 : BitVec 32 := BitVec.ofNat 32 (i 0).val
  let c32_i32 : BitVec 32 := 32#32
  let v14 : BitVec 1 := Scalar.cmpi .slt arg0 c32_i32
  let v15 : BitVec 32 := Scalar.extui v14
  let c0_i32_5 : BitVec 32 := 0#32
  let v16 : BitVec 1 := Scalar.cmpi .ne v15 c0_i32_5
  v16

def k0_off1 (i : grid0.Coords) : Fin 1 → Nat :=
  let arg0 : BitVec 32 := BitVec.ofNat 32 (i 0).val
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi arg0 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  ![v32.toNat]
def k0_off2 (i : grid0.Coords) : Fin 3 → Nat :=
  let arg0 : BitVec 32 := BitVec.ofNat 32 (i 0).val
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi arg0 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_20 : BitVec 32 := 0#32
  let c0_i32_21 : BitVec 32 := 0#32
  ![v32.toNat, 0, 0]
def k0_off3 (i : grid0.Coords) (d0 : Dev nD) : Fin 2 → Nat :=
  let arg0 : BitVec 32 := BitVec.ofNat 32 (i 0).val
  let c1024_i32 : BitVec 32 := 1024#32
  let v33 : BitVec 32 := Scalar.muli arg0 c1024_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v34 : BitVec 32 := Scalar.muli v5 c512_i32
  let v35 : BitVec 32 := Scalar.addi v33 v34
  let c0_i32_22 : BitVec 32 := 0#32
  ![v35.toNat, 0]
def k0_dev3 (d0 : Dev nD) : Nat :=
  let c0_i32_17 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_16 : BitVec 32 := 8#32
  let v36 : BitVec 32 := Scalar.muli v9 c8_i32_16
  let v37 : BitVec 32 := Scalar.addi c0_i32_17 v36
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_18 : BitVec 32 := 4#32
  let v38 : BitVec 32 := Scalar.muli v5 c4_i32_18
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v40 : BitVec 32 := Scalar.muli v8 c1_i32_19
  let v41 : BitVec 32 := Scalar.addi v39 v40
  v41.toNat
def k0_cond4 (i : grid0.Coords) : BitVec 1 :=
  let arg0 : BitVec 32 := BitVec.ofNat 32 (i 0).val
  let c2_i32_6 : BitVec 32 := 2#32
  let v17 : BitVec 1 := Scalar.cmpi .sge arg0 c2_i32_6
  let v18 : BitVec 32 := Scalar.extui v17
  let c0_i32_7 : BitVec 32 := 0#32
  let v19 : BitVec 1 := Scalar.cmpi .ne v18 c0_i32_7
  v19

def k0_off4 (i : grid0.Coords) : Fin 1 → Nat :=
  let arg0 : BitVec 32 := BitVec.ofNat 32 (i 0).val
  let c2_i32_8 : BitVec 32 := 2#32
  let v20 : BitVec 32 := Scalar.subi arg0 c2_i32_8
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v20 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  ![v40.toNat]
def k0_off5 (i : grid0.Coords) : Fin 3 → Nat :=
  let arg0 : BitVec 32 := BitVec.ofNat 32 (i 0).val
  let c2_i32_8 : BitVec 32 := 2#32
  let v20 : BitVec 32 := Scalar.subi arg0 c2_i32_8
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v20 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_25 : BitVec 32 := 0#32
  let c0_i32_26 : BitVec 32 := 0#32
  ![v40.toNat, 0, 0]
def k0_off6 (i : grid0.Coords) (d0 : Dev nD) : Fin 2 → Nat :=
  let arg0 : BitVec 32 := BitVec.ofNat 32 (i 0).val
  let c2_i32_8 : BitVec 32 := 2#32
  let v20 : BitVec 32 := Scalar.subi arg0 c2_i32_8
  let c1024_i32 : BitVec 32 := 1024#32
  let v41 : BitVec 32 := Scalar.muli v20 c1024_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v42 : BitVec 32 := Scalar.muli v5 c512_i32
  let v43 : BitVec 32 := Scalar.addi v41 v42
  let c0_i32_27 : BitVec 32 := 0#32
  ![v43.toNat, 0]
def k0_dev4 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v68 : BitVec 32 := Scalar.muli v2 c8_i32_36
  let v69 : BitVec 32 := Scalar.addi c0_i32_37 v68
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_38 : BitVec 32 := 4#32
  let v70 : BitVec 32 := Scalar.muli v10 c4_i32_38
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v72 : BitVec 32 := Scalar.muli v8 c1_i32_39
  let v73 : BitVec 32 := Scalar.addi v71 v72
  v73.toNat
def k0_off7 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_44 : BitVec 32 := 512#32
  let v82 : BitVec 32 := Scalar.muli v5 c512_i32_44
  let v83 : Index := Scalar.indexCast v82
  let c0 : Index := 0#32
  ![v83.toNat, 0]
def k0_off8 (i : grid0.Coords) : Fin 3 → Nat :=
  let arg0 : BitVec 32 := BitVec.ofNat 32 (i 0).val
  let c2_i32_8 : BitVec 32 := 2#32
  let v20 : BitVec 32 := Scalar.subi arg0 c2_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let v86 : Index := Scalar.indexCast v30
  let c0_45 : Index := 0#32
  let c0_46 : Index := 0#32
  ![v86.toNat, 0, 0]
def k0_off9 (d0 : Dev nD) : Fin 2 → Nat :=
  let c1_i32_61 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v110 : BitVec 32 := Scalar.subi c1_i32_61 v5
  let c512_i32_62 : BitVec 32 := 512#32
  let v111 : BitVec 32 := Scalar.muli v110 c512_i32_62
  let v112 : Index := Scalar.indexCast v111
  let c0_63 : Index := 0#32
  ![v112.toNat, 0]
def k0_cond6 (i : grid0.Coords) : BitVec 1 :=
  let arg0 : BitVec 32 := BitVec.ofNat 32 (i 0).val
  let c2_i32_8 : BitVec 32 := 2#32
  let v20 : BitVec 32 := Scalar.subi arg0 c2_i32_8
  let c27_i32 : BitVec 32 := 27#32
  let v129 : BitVec 1 := Scalar.cmpi .sle v20 c27_i32
  let v130 : BitVec 32 := Scalar.extui v129
  let c0_i32_74 : BitVec 32 := 0#32
  let v131 : BitVec 1 := Scalar.cmpi .ne v130 c0_i32_74
  v131

def k0_dev5 (d0 : Dev nD) : Nat :=
  let c0_i32_77 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_76 : BitVec 32 := 8#32
  let v132 : BitVec 32 := Scalar.muli v9 c8_i32_76
  let v133 : BitVec 32 := Scalar.addi c0_i32_77 v132
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_78 : BitVec 32 := 4#32
  let v134 : BitVec 32 := Scalar.muli v5 c4_i32_78
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v136 : BitVec 32 := Scalar.muli v8 c1_i32_79
  let v137 : BitVec 32 := Scalar.addi v135 v136
  v137.toNat
def k0_dev6 (d0 : Dev nD) : Nat :=
  let c0_i32_82 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_81 : BitVec 32 := 8#32
  let v138 : BitVec 32 := Scalar.muli v2 c8_i32_81
  let v139 : BitVec 32 := Scalar.addi c0_i32_82 v138
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_83 : BitVec 32 := 4#32
  let v140 : BitVec 32 := Scalar.muli v10 c4_i32_83
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v142 : BitVec 32 := Scalar.muli v8 c1_i32_84
  let v143 : BitVec 32 := Scalar.addi v141 v142
  v143.toNat
def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Cells.lean ====
/- The names the proof of the kernel speaks in: the two partners of a device, the slots of the two landing buffers, the blocks of
   the argument a device sends, and the semaphore cells — each with the equation from the kernel's own expression to the name. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Rounds.Family
public import Idealize.ShloMosaic.Lib.Release
public import Idealize.ShloMosaic.Lib.MemrefSat
public import Idealize.ShloMosaic.Lib.Pipeline.Regions
public import Idealize.ShloMosaic.Lib.Pipeline.Kit
public import Idealize.ShloMosaic.Lib.Pipeline.FrameBody
public import Idealize.ShloMosaic.Lib.Tactic

@[expose] public section

noncomputable section

namespace Cert.KernelIdealProof

open Cert.KernelIdeal Cert.KernelIdeal.Gen
open Idealize.ShloMosaic
open Idealize.ShloMosaic.TcCoe

/-! ## The partners -/

/-- The device with the other `x` coordinate. -/
def xp (c : Dev nD) : Dev nD := ⟨(4 * ((c.val / 4) % 2) + (c.val % 4) + 8) - 8 * (c.val / 8), by have := c.isLt; show _ < 16; change c.val < 16 at this; omega⟩
/-- The device with the other `y` coordinate. -/
def yp (c : Dev nD) : Dev nD := ⟨(8 * (c.val / 8) + (c.val % 4) + 4) - 4 * ((c.val / 4) % 2), by have := c.isLt; show _ < 16; change c.val < 16 at this; omega⟩

/-- The `y` coordinate of a device. -/
def yc (c : Dev nD) : ℕ := (c.val / 4) % 2

theorem yc_lt (c : Dev nD) : yc c < 2 := Nat.mod_lt _ (by decide)
theorem xp_xp (c : Dev nD) : xp (xp c) = c := by revert c; decide
theorem yp_yp (c : Dev nD) : yp (yp c) = c := by revert c; decide
theorem xp_ne_yp (c : Dev nD) : xp c ≠ yp c := by revert c; decide
theorem yc_xp (c : Dev nD) : yc (xp c) = yc c := by revert c; decide
theorem yc_yp (c : Dev nD) : yc (yp c) = 1 - yc c := by revert c; decide

/-- The two directions: `false` along `x`, `true` along `y`. A device's partner in a direction. -/
def peer (b : Bool) (c : Dev nD) : Dev nD := if b then yp c else xp c
theorem peer_peer (b : Bool) (c : Dev nD) : peer b (peer b c) = c := by cases b <;> [exact xp_xp c; exact yp_yp c]
/-- The exchange of partners, as a permutation of the devices. -/
def peerEquiv (b : Bool) : Dev nD ≃ Dev nD := ⟨peer b, peer b, peer_peer b, peer_peer b⟩

/-- Whose argument the block arriving at `c` in a direction is taken from: its `x` partner's, or its `y` partner's `x` partner's. -/
def orig (b : Bool) (c : Dev nD) : Dev nD := if b then xp (yp c) else xp c

theorem dev1_eq (c : Dev nD) (h) : (⟨k0_dev1 c, h⟩ : Dev nD) = peer false c := Fin.ext (k0_dev1_eq c)
theorem dev2_eq (c : Dev nD) (h) : (⟨k0_dev2 c, h⟩ : Dev nD) = peer true c := Fin.ext (k0_dev2_eq c)
theorem dev3_eq (c : Dev nD) (h) : (⟨k0_dev3 c, h⟩ : Dev nD) = peer false c := Fin.ext (k0_dev3_eq c)
theorem dev4_eq (c : Dev nD) (h) : (⟨k0_dev4 c, h⟩ : Dev nD) = peer true c := Fin.ext (k0_dev4_eq c)
theorem dev5_eq (c : Dev nD) (h) : (⟨k0_dev5 c, h⟩ : Dev nD) = peer false c := Fin.ext (k0_dev5_eq c)
theorem dev6_eq (c : Dev nD) (h) : (⟨k0_dev6 c, h⟩ : Dev nD) = peer true c := Fin.ext (k0_dev6_eq c)

/-! ## The memrefs -/

/-- The landing buffer of a direction, four slots. -/
abbrev scrM (b : Bool) : Memref sig .tc .vmem S4x512x1024 .f32 := if b then Memref.whole cc0_scratch1 else Memref.whole cc0_scratch0

theorem slot_inb (k : ℕ) : ∀ a : Fin 3, (![k % 4, 0, 0] : Fin 3 → ℕ) a + S1x512x1024.size a ≤ S4x512x1024.size a := by
  intro a
  have := Nat.mod_lt k (show 4 > 0 by decide)
  fin_cases a
  · show k % 4 + 1 ≤ 4; omega
  · show 0 + 512 ≤ 512; omega
  · show 0 + 1024 ≤ 1024; omega

/-- The slot block `k` lands in. -/
abbrev slotM (b : Bool) (k : ℕ) : Memref sig .tc .vmem S512x1024 .f32 :=
  ((scrM b).slice (Rect.unit (s := S4x512x1024) ![k % 4, 0, 0] S1x512x1024.size (slot_inb k)) (fun _ => rfl)).squeeze S512x1024 squeezes_S1x512x1024_S512x1024

theorem src_inb (c : Dev nD) (k : ℕ) : ∀ a : Fin 2, (![1024 * (k % 32) + 512 * yc c, 0] : Fin 2 → ℕ) a + S512x1024.size a ≤ S32768x1024.size a := by
  intro a
  have := Nat.mod_lt k (show 32 > 0 by decide)
  have := yc_lt c
  fin_cases a
  · show 1024 * (k % 32) + 512 * yc c + 512 ≤ 32768; omega
  · show 0 + 1024 ≤ 1024; omega

/-- The rows of its argument device `c` sends as block `k`. -/
abbrev srcM (c : Dev nD) (k : ℕ) : Memref sig .tc .hbm S512x1024 .f32 :=
  (Memref.whole main_arg0).slice (Rect.unit (s := S32768x1024) ![1024 * (k % 32) + 512 * yc c, 0] S512x1024.size (src_inb c k)) (fun _ => rfl)

/-! ## The semaphores -/

/-- The runtime's barrier semaphore. -/
abbrev barS : Sem sig := (SemArray.scalar (sig.barrier 0 rfl) : Sems sig S_).sem
/-- The semaphore a direction's freed slots are reported on. -/
abbrev credS (b : Bool) : Sem sig := if b then cc0_scratch7.sem else cc0_scratch6.sem

theorem sem_inb (k : ℕ) : ∀ a : Fin 1, (![k % 4] : Fin 1 → ℕ) a + S1.size a ≤ S4.size a := by
  intro a
  have := Nat.mod_lt k (show 4 > 0 by decide)
  fin_cases a
  show k % 4 + 1 ≤ 4; omega

/-- The semaphore of block `k` in an array of four. -/
abbrev semAt (A : DmaSems sig S4) (k : ℕ) : DmaSem sig :=
  ((A.slice (Rect.unit (s := S4) ![k % 4] S1.size (sem_inb k))).squeeze S_ squeezes_S1_S_).sem

/-- The semaphore a direction's send of block `k` completes on at the sender; -/
abbrev sendS (b : Bool) (k : ℕ) : DmaSem sig := semAt (if b then cc0_scratch4 else cc0_scratch2) k
/-- and the one its arrival completes on at the receiver. -/
abbrev recvS (b : Bool) (k : ℕ) : DmaSem sig := semAt (if b then cc0_scratch5 else cc0_scratch3) k

abbrev barCell (c : Dev nD) : GSem nD τ sig := ((c : Thread nD τ), .reg barS)
abbrev credCell (b : Bool) (c : Dev nD) : GSem nD τ sig := ((c : Thread nD τ), .reg (credS b))
abbrev sendCell (b : Bool) (k : ℕ) (c : Dev nD) : GSem nD τ sig := ((c : Thread nD τ), .dma (sendS b k))
abbrev recvCell (b : Bool) (k : ℕ) (c : Dev nD) : GSem nD τ sig := ((c : Thread nD τ), .dma (recvS b k))

/-- What a semaphore is for. -/
inductive Role where
  | bar
  | cred (b : Bool)
  | send (b : Bool) (s : ℕ)
  | recv (b : Bool) (s : ℕ)
  | other
  deriving DecidableEq

/-- A semaphore's role, by its number. -/
def role : SemLoc sig → Role
  | .reg q => if q.val = 0 then .cred false else if q.val = 1 then .cred true else .bar
  | .dma q =>
    if q.val < 4 then .other else if q.val < 8 then .send false (q.val - 4) else if q.val < 12 then .recv false (q.val - 8)
    else if q.val < 16 then .send true (q.val - 12) else .recv true (q.val - 16)

theorem role_bar : role (.reg barS) = .bar := by decide
theorem role_cred (b : Bool) : role (.reg (credS b)) = .cred b := by cases b <;> decide
theorem sendS_mod (b : Bool) (k : ℕ) : sendS b k = sendS b (k % 4) := by
  unfold sendS semAt; congr 3; simp only [Nat.mod_mod]
theorem recvS_mod (b : Bool) (k : ℕ) : recvS b k = recvS b (k % 4) := by
  unfold recvS semAt; congr 3; simp only [Nat.mod_mod]
theorem role_send (b : Bool) (k : ℕ) : role (.dma (sendS b k)) = .send b (k % 4) := by
  rw [sendS_mod]
  have h : k % 4 < 4 := Nat.mod_lt k (by decide)
  generalize k % 4 = s at h
  rcases s with _ | _ | _ | _ | s
  iterate 4 (cases b <;> decide)
  omega
theorem role_recv (b : Bool) (k : ℕ) : role (.dma (recvS b k)) = .recv b (k % 4) := by
  rw [recvS_mod]
  have h : k % 4 < 4 := Nat.mod_lt k (by decide)
  generalize k % 4 = s at h
  rcases s with _ | _ | _ | _ | s
  iterate 4 (cases b <;> decide)
  omega

/-! ## The kernel's own expressions -/

theorem cond1_iff : ∀ i : grid0.Coords, k0_cond1 i = 1#1 ↔ (i 0).val = 0 := by decide +kernel
theorem cond2_iff : ∀ i : grid0.Coords, k0_cond2 i = 1#1 ↔ (i 0).val < 32 := by decide +kernel
theorem cond4_iff : ∀ i : grid0.Coords, k0_cond4 i = 1#1 ↔ 2 ≤ (i 0).val := by decide +kernel
theorem cond6_iff : ∀ i : grid0.Coords, k0_cond4 i = 1#1 → (k0_cond6 i = 1#1 ↔ (i 0).val < 30) := by decide +kernel
/-- Whether the kernel waits for a freed slot before sending along `x`, -/
theorem wait_x_iff : ∀ i : grid0.Coords, Scalar.cmpi .ne (Scalar.extui (Scalar.cmpi .sge (BitVec.ofNat 32 (i 0).val) 4#32)) 0#32 = 1#1 ↔ 4 ≤ (i 0).val := by
  decide +kernel
/-- and before sending along `y`. -/
theorem wait_y_iff : ∀ i : grid0.Coords, k0_cond4 i = 1#1 →
    (Scalar.cmpi .ne (Scalar.extui (Scalar.cmpi .sge (Scalar.subi (BitVec.ofNat 32 (i 0).val) 2#32) 4#32)) 0#32 = 1#1 ↔ 6 ≤ (i 0).val) := by
  decide +kernel

theorem off1_eq : ∀ i : grid0.Coords, k0_cond2 i = 1#1 → k0_off1 i = ![(i 0).val % 4] := by decide +kernel
theorem off2_eq : ∀ i : grid0.Coords, k0_cond2 i = 1#1 → k0_off2 i = ![(i 0).val % 4, 0, 0] := by decide +kernel
theorem off4_eq : ∀ i : grid0.Coords, k0_cond4 i = 1#1 → k0_off4 i = ![((i 0).val - 2) % 4] := by decide +kernel
theorem off5_eq : ∀ i : grid0.Coords, k0_cond4 i = 1#1 → k0_off5 i = ![((i 0).val - 2) % 4, 0, 0] := by decide +kernel
theorem off8_eq : ∀ i : grid0.Coords, k0_cond4 i = 1#1 → k0_off8 i = ![((i 0).val - 2) % 4, 0, 0] := by decide +kernel
theorem off3_eq (i : grid0.Coords) (c : Dev nD) (h : k0_cond2 i = 1#1) : k0_off3 i c = ![1024 * ((i 0).val % 32) + 512 * yc c, 0] := by
  rw [k0_off3_eq, Nat.mod_eq_of_lt ((cond2_iff i).mp h)]; rfl

end Cert.KernelIdealProof

end
-- ==== Proof.Ideal.Protocol.lean ====
/- The agreement between the devices: what every semaphore cell hands over in each of its rounds.

   * the barrier cell, one round of two signals: each partner says its four landing slots in that direction are free;
   * a send cell, a round for every fourth block: along `y` the half of the landing slot that was lent to the transfer comes back;
   * a receive cell, a round for every fourth block: the slot with the block that landed in it;
   * a credit cell, one round of 28 signals: signal `d` says that blocks up to `d + 4` may be sent. -/
module

public import proofs.«01_k».proof.Proof.Ideal.Cells
public import Mathlib.Algebra.BigOperators.Intervals
import Mathlib.Tactic.Abel

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra -/

/-- A landing slot: its owner, its direction, its number. -/
abbrev Key : Type := Dev nD × Bool × ℕ

/-- The pipeline's rounds beside the kernel's rounds and the slots' release counts. -/
abbrev UU : Type := UR sig nD τ × (URounds (GSem nD τ sig) ℕ × USlots Key)

local notation "𝕄" => MT nD τ sig ℕ (Elt F) ℕ UU ℕ

abbrev EP : Emb (UR sig nD τ) (MT nD τ sig ℕ (Elt F) ℕ UU ℕ) := embL
/-- The kernel's rounds. -/
def ER : Emb (URounds (GSem nD τ sig) ℕ) (MT nD τ sig ℕ (Elt F) ℕ UU ℕ) :=
  (Emb.inl : Emb (URounds (GSem nD τ sig) ℕ) (URounds (GSem nD τ sig) ℕ × USlots Key)).trans embR
/-- The slots' release counts. -/
def ES : Emb (USlots Key) (MT nD τ sig ℕ (Elt F) ℕ UU ℕ) :=
  (Emb.inr : Emb (USlots Key) (URounds (GSem nD τ sig) ℕ × USlots Key)).trans embR

instance ER_landsIn : (ER : Emb _ 𝕄).LandsIn (upEmb : UEmb _ 𝕄) := by unfold ER; infer_instance
instance ES_landsIn : (ES : Emb _ 𝕄).LandsIn (upEmb : UEmb _ 𝕄) := by unfold ES; infer_instance

variable (m : (ℓ : Loc nD τ sig) → Buf (Elt F) ℓ)

/-! ## Contents -/

/-- Device `c`'s argument at launch. -/
abbrev xv (c : Dev nD) : (main_arg0 : Ref sig .tc).ty.Contents (Elt F) := m ((c : Thread nD τ).loc main_arg0)

/-- The block number `k` of what device `c` sends. -/
def blk (c : Dev nD) (k : ℕ) : S512x1024.Idx → Elt F .f32 := (srcM c k).view.read (Elt F) (xv m c)

/-! ## The schedule -/

/-- Slot `k % 4` of `p` is free to be written with block `k`, and `p` takes reports of freed slots. -/
def ready (b : Bool) (p : Dev nD) (k : ℕ) : sProp 𝕄 :=
  iprop(released ES (p, b, k % 4) (k / 4 + 1) ∗ reached ER (recvCell b k p) (k / 4) ∗ reached ER (credCell b p) 0)
/-- The slots of `p` are free to be written with the blocks before `n`. -/
def free (b : Bool) (p : Dev nD) (n : ℕ) : sProp 𝕄 := bigSep (Finset.range n) fun k => ready b p k

instance ready_persistent (b : Bool) (p : Dev nD) (k : ℕ) : BI.Persistent (ready (F := F) b p k) := by unfold ready; infer_instance
instance free_persistent (b : Bool) (p : Dev nD) (n : ℕ) : BI.Persistent (free (F := F) b p n) := by unfold free; infer_instance
instance ready_storable (b : Bool) (p : Dev nD) (k : ℕ) : BI.Storable (upEmb : UEmb _ 𝕄) (ready (F := F) b p k) := by unfold ready; infer_instance
instance free_storable (b : Bool) (p : Dev nD) (n : ℕ) : BI.Storable (upEmb : UEmb _ 𝕄) (free (F := F) b p n) := by unfold free; infer_instance

/-- What a block's transfer credits. -/
def N : ℕ := (slotM false 0).view.dmaCredit
theorem N_pos : 0 < N := View.dmaCredit_pos _ (by decide +kernel)
attribute [irreducible] N

/-- What a cell of device `c` hands over. -/
def pay (c : Dev nD) : Role → ℕ → ℕ → sProp 𝕄
  | .bar, _, d => free (d ≠ 0) (peer (d ≠ 0) c) 4
  | .cred b, _, d => free b (peer b c) (d + 5)
  | .recv b s, r, _ => owns (c : Thread nD τ) (slotM b s) fullShare (blk m (orig b c) (4 * r + s))
  | .send true s, r, _ => owns (c : Thread nD τ) (slotM false s) fullShare.right (blk m (orig false c) (4 * r + s))
  | .send false _, _, _ => iprop(emp)
  | .other, _, _ => iprop(emp)

instance pay_storable (c : Dev nD) (ρ : Role) (r d : ℕ) : BI.Storable (upEmb : UEmb _ 𝕄) (pay m c ρ r d) := by
  match ρ with
  | .bar => unfold pay; infer_instance
  | .cred b => unfold pay; infer_instance
  | .recv b s => unfold pay; infer_instance
  | .send true s => unfold pay; infer_instance
  | .send false s => show BI.Storable _ (iprop(emp) : sProp 𝕄); infer_instance
  | .other => show BI.Storable _ (iprop(emp) : sProp 𝕄); infer_instance

/-- The signals of a cell's round. -/
def dutiesOf : Role → ℕ → Finset ℕ
  | .bar, r => if r = 0 then {0, 1} else ∅
  | .cred _, r => if r = 0 then Finset.range 28 else ∅
  | .recv _ _, r => if r < 8 then {0} else ∅
  | .send _ _, r => if r < 8 then {0} else ∅
  | .other, _ => ∅

/-- What one signal adds to the cell. -/
def amountOf : Role → ℕ
  | .bar => 1
  | .cred _ => 1
  | _ => N

/-- The agreement. -/
def Rd : Rounds.Schedule (GSem nD τ sig) ℕ 𝕄 where
  duties g r := if g.1.2 = .tc then dutiesOf (role g.2) r else ∅
  unitless _ := False
  amount g _ _ := amountOf (role g.2)
  payload g r d := pay m g.1.1 (role g.2) r d
  amount_pos g _ _ _ := by
    rcases role g.2 with _ | _ | _ | _ | _ <;> first | exact Nat.one_pos | exact N_pos

instance Rd_payload_storable (g : GSem nD τ sig) (r d : ℕ) : BI.Storable (upEmb : UEmb _ 𝕄) ((Rd m).payload g r d) := pay_storable m _ _ _ _

/-! ### The tables -/

section Tables

variable (c : Dev nD) (b : Bool) (k r d : ℕ)

omit [FloatOps F]

theorem duties_tc {sm : SemLoc sig} {ρ : Role} (h : role sm = ρ) : (Rd (F := F) m).duties ((c : Thread nD τ), sm) r = dutiesOf ρ r := by
  subst h; show (if (c : Thread nD τ).2 = .tc then dutiesOf (role sm) r else ∅) = _; exact if_pos rfl
theorem amount_tc {sm : SemLoc sig} {ρ : Role} (h : role sm = ρ) : (Rd (F := F) m).amount ((c : Thread nD τ), sm) r d = amountOf ρ := by
  subst h; rfl
theorem payload_tc {sm : SemLoc sig} {ρ : Role} (h : role sm = ρ) : (Rd (F := F) m).payload ((c : Thread nD τ), sm) r d = pay m c ρ r d := by
  subst h; rfl

theorem duties_bar : (Rd (F := F) m).duties (barCell c) 0 = {0, 1} := by
  exact duties_tc m c _ role_bar
theorem duties_cred : (Rd (F := F) m).duties (credCell b c) 0 = Finset.range 28 := by
  exact duties_tc m c _ (role_cred b)
theorem duties_send (h : r < 8) : (Rd (F := F) m).duties (sendCell b k c) r = {0} := by
  exact (duties_tc m c _ (role_send b k)).trans (if_pos h)
theorem duties_recv (h : r < 8) : (Rd (F := F) m).duties (recvCell b k c) r = {0} := by
  exact (duties_tc m c _ (role_recv b k)).trans (if_pos h)

theorem amount_bar : (Rd (F := F) m).amount (barCell c) r d = 1 := by exact amount_tc m c r d role_bar
theorem amount_cred : (Rd (F := F) m).amount (credCell b c) r d = 1 := by exact amount_tc m c r d (role_cred b)
theorem amount_send : (Rd (F := F) m).amount (sendCell b k c) r d = N := by exact amount_tc m c r d (role_send b k)
theorem amount_recv : (Rd (F := F) m).amount (recvCell b k c) r d = N := by exact amount_tc m c r d (role_recv b k)

theorem expect_bar : (Rd (F := F) m).expect (barCell c) 0 = 2 := by
  unfold Schedule.expect Schedule.amountOf; rw [duties_bar]; simp only [amount_bar]; rfl
theorem expect_cred : (Rd (F := F) m).expect (credCell b c) 0 = 28 := by
  unfold Schedule.expect Schedule.amountOf; rw [duties_cred]; simp only [amount_cred]; rfl
theorem expect_send (h : r < 8) : (Rd (F := F) m).expect (sendCell b k c) r = N := by
  unfold Schedule.expect Schedule.amountOf; rw [duties_send m c b k r h, Finset.sum_singleton, amount_send]
theorem expect_recv (h : r < 8) : (Rd (F := F) m).expect (recvCell b k c) r = N := by
  unfold Schedule.expect Schedule.amountOf; rw [duties_recv m c b k r h, Finset.sum_singleton, amount_recv]

theorem slotM_mod : slotM b (k % 4) = slotM b k := by
  unfold slotM; congr 2; simp only [Nat.mod_mod]

theorem payload_bar_x : (Rd m).payload (barCell c) 0 0 = free (F := F) false (peer false c) 4 := by
  rw [payload_tc m c _ _ role_bar]; rfl
theorem payload_bar_y : (Rd m).payload (barCell c) 0 1 = free (F := F) true (peer true c) 4 := by
  rw [payload_tc m c _ _ role_bar]; rfl
theorem payload_cred : (Rd m).payload (credCell b c) r d = free (F := F) b (peer b c) (d + 5) := by
  rw [payload_tc m c _ _ (role_cred b)]; rfl
theorem payload_send_x : (Rd (F := F) m).payload (sendCell false k c) r d = iprop(emp) := by
  rw [payload_tc m c _ _ (role_send false k)]; rfl
theorem payload_send_y : (Rd m).payload (sendCell true k c) (k / 4) d
    = owns (c : Thread nD τ) (slotM false k) fullShare.right (blk m (orig false c) k) := by
  rw [payload_tc m c _ _ (role_send true k)]
  show owns (c : Thread nD τ) (slotM false (k % 4)) fullShare.right (blk m (orig false c) (4 * (k / 4) + k % 4)) = _
  rw [slotM_mod, Nat.div_add_mod]
theorem payload_recv : (Rd m).payload (recvCell b k c) (k / 4) d
    = owns (c : Thread nD τ) (slotM b k) fullShare (blk m (orig b c) k) := by
  rw [payload_tc m c _ _ (role_recv b k)]
  show owns (c : Thread nD τ) (slotM b (k % 4)) fullShare (blk m (orig b c) (4 * (k / 4) + k % 4)) = _
  rw [slotM_mod, Nat.div_add_mod]

/-- No cell has a round after its last. -/
theorem duties_bar_later : ∀ r, 1 ≤ r → (Rd (F := F) m).duties (barCell c) r = ∅ := fun r h => by
  exact (duties_tc m c _ role_bar).trans (if_neg (by omega))
theorem duties_cred_later : ∀ r, 1 ≤ r → (Rd (F := F) m).duties (credCell b c) r = ∅ := fun r h => by
  exact (duties_tc m c _ (role_cred b)).trans (if_neg (by omega))
theorem duties_send_later : ∀ r, 8 ≤ r → (Rd (F := F) m).duties (sendCell b k c) r = ∅ := fun r h => by
  exact (duties_tc m c _ (role_send b k)).trans (if_neg (by omega))
theorem duties_recv_later : ∀ r, 8 ≤ r → (Rd (F := F) m).duties (recvCell b k c) r = ∅ := fun r h => by
  exact (duties_tc m c _ (role_recv b k)).trans (if_neg (by omega))

end Tables

/-! ## What is owed, and the levels -/

/-- What device `c` owes when it has sent the blocks before `a` along `x` and those before `y` along `y`, and has reported the
    blocks before `d` in the first direction and those before `e` in the second. -/
def Ow (c : Dev nD) (a y d e : ℕ) : CellTallies nD τ sig ℕ :=
  (∑ k ∈ Finset.Ico a 32, tallyAt (recvCell false k (peer false c)) k N) + (∑ k ∈ Finset.Ico y 32, tallyAt (recvCell true k (peer true c)) k N)
    + (∑ k ∈ Finset.Ico d 28, tallyAt (credCell false (peer false c)) k 1) + (∑ k ∈ Finset.Ico e 28, tallyAt (credCell true (peer true c)) k 1)

/-- What it owes at launch: the two barrier signals too. -/
def O₀ (c : Dev nD) : CellTallies nD τ sig ℕ :=
  (Ow c 0 0 0 0 + tallyAt (barCell (peer true c)) 0 1) + tallyAt (barCell (peer false c)) 0 1

def L (g : GSem nD τ sig) : Finset ℕ := if g.1.2 = .tc then Finset.range 32 else ∅
/-- The order of the waits: at grid point `i` a device waits only for what is below everything it still owes then. -/
def lv (g : GSem nD τ sig) (k : ℕ) : ℕ :=
  match role g.2 with
  | .bar => 1
  | .cred _ => 10 * (k + 2) + 8
  | .recv false _ => 10 * k + 2
  | .recv true _ => 10 * (k + 2) + 5
  | _ => 0

theorem L_of_ne (g : GSem nD τ sig) (h : g.1.2 ≠ .tc) : L g = ∅ := if_neg h
theorem L_tc (c : Dev nD) (sm : SemLoc sig) : L ((c : Thread nD τ), sm) = Finset.range 32 := if_pos rfl
theorem lv_bar (c : Dev nD) (k : ℕ) : lv (barCell c) k = 1 := by unfold lv; rw [role_bar]
theorem lv_cred (b : Bool) (c : Dev nD) (k : ℕ) : lv (credCell b c) k = 10 * (k + 2) + 8 := by unfold lv; rw [role_cred]
theorem lv_recv_x (s : ℕ) (c : Dev nD) (k : ℕ) : lv (recvCell false s c) k = 10 * k + 2 := by unfold lv; rw [role_recv]
theorem lv_recv_y (s : ℕ) (c : Dev nD) (k : ℕ) : lv (recvCell true s c) k = 10 * (k + 2) + 5 := by unfold lv; rw [role_recv]
theorem lv_send (b : Bool) (s : ℕ) (c : Dev nD) (k : ℕ) : lv (sendCell b s c) k = 0 := by unfold lv; rw [role_send]

theorem Ow_peel_x (c : Dev nD) (a y d e : ℕ) (h : a < 32) :
    Ow c a y d e = Ow c (a + 1) y d e + tallyAt (recvCell false a (peer false c)) a N := by
  unfold Ow; rw [Finset.sum_eq_sum_Ico_succ_bot h]; abel
theorem Ow_peel_y (c : Dev nD) (a y d e : ℕ) (h : y < 32) :
    Ow c a y d e = Ow c a (y + 1) d e + tallyAt (recvCell true y (peer true c)) y N := by
  unfold Ow; rw [Finset.sum_eq_sum_Ico_succ_bot h]; abel
theorem Ow_peel_d (c : Dev nD) (a y d e : ℕ) (h : d < 28) :
    Ow c a y d e = Ow c a y (d + 1) e + tallyAt (credCell false (peer false c)) d 1 := by
  unfold Ow; rw [Finset.sum_eq_sum_Ico_succ_bot h]; abel
theorem Ow_peel_e (c : Dev nD) (a y d e : ℕ) (h : e < 28) :
    Ow c a y d e = Ow c a y d (e + 1) + tallyAt (credCell true (peer true c)) e 1 := by
  unfold Ow; rw [Finset.sum_eq_sum_Ico_succ_bot h]; abel

/-- A debt is one of the four kinds, not yet paid. -/
theorem Ow_pos {c : Dev nD} {a y d e : ℕ} {g : GSem nD τ sig} {i : ℕ} (h : 0 < Ow c a y d e g i) :
    (∃ k, a ≤ k ∧ k < 32 ∧ g = recvCell false k (peer false c) ∧ i = k) ∨ (∃ k, y ≤ k ∧ k < 32 ∧ g = recvCell true k (peer true c) ∧ i = k)
    ∨ (∃ b k, (if b then e else d) ≤ k ∧ k < 28 ∧ g = credCell b (peer b c) ∧ i = k) := by
  unfold Ow at h
  have key {s : Finset ℕ} {f : ℕ → GSem nD τ sig} {n : ℕ} (h : 0 < (∑ k ∈ s, tallyAt (f k) k n : CellTallies nD τ sig ℕ) g i) :
      ∃ k ∈ s, g = f k ∧ i = k := by
    obtain ⟨k, hk, h⟩ := Pipeline.sum_pos_exists h
    exact ⟨k, hk, Pipeline.tallyAt_pos h⟩
  rcases Pipeline.add_pos_cases h with h | h
  · rcases Pipeline.add_pos_cases h with h | h
    · rcases Pipeline.add_pos_cases h with h | h
      · obtain ⟨k, hk, h1, h2⟩ := key h
        rw [Finset.mem_Ico] at hk
        exact .inl ⟨k, hk.1, hk.2, h1, h2⟩
      · obtain ⟨k, hk, h1, h2⟩ := key h
        rw [Finset.mem_Ico] at hk
        exact .inr (.inl ⟨k, hk.1, hk.2, h1, h2⟩)
    · obtain ⟨k, hk, h1, h2⟩ := key h
      rw [Finset.mem_Ico] at hk
      exact .inr (.inr ⟨false, k, hk.1, hk.2, h1, h2⟩)
  · obtain ⟨k, hk, h1, h2⟩ := key h
    rw [Finset.mem_Ico] at hk
    exact .inr (.inr ⟨true, k, hk.1, hk.2, h1, h2⟩)

omit [FloatOps F] in
/-- A device may wait for what is below everything it owes. -/
theorem mayWait_Ow (c : Dev nD) (sm : SemLoc sig) (i a y d e : ℕ) (hi : i < 32) (hx : a < 32 → lv ((c : Thread nD τ), sm) i < 10 * a + 2)
    (hy : y < 32 → lv ((c : Thread nD τ), sm) i < 10 * (y + 2) + 5) (hd : d < 28 → lv ((c : Thread nD τ), sm) i < 10 * (d + 2) + 8)
    (he : e < 28 → lv ((c : Thread nD τ), sm) i < 10 * (e + 2) + 8) :
    (levAts L lv : sProp 𝕄) ⊢ MayWait (c : Thread nD τ) sm i (Ow c a y d e) :=
  Pipeline.mayWait_of_levAts (by rw [L_tc]; exact Finset.mem_range.mpr hi) fun g j hg => by
    rcases Ow_pos hg with ⟨k, h1, h2, rfl, rfl⟩ | ⟨k, h1, h2, rfl, rfl⟩ | ⟨b, k, h1, h2, rfl, rfl⟩
    · refine ⟨by rw [L_tc]; exact Finset.mem_range.mpr h2, ?_⟩
      rw [lv_recv_x]; have := hx (by omega); omega
    · refine ⟨by rw [L_tc]; exact Finset.mem_range.mpr h2, ?_⟩
      rw [lv_recv_y]; have := hy (by omega); omega
    · refine ⟨by rw [L_tc]; exact Finset.mem_range.mpr (by omega), ?_⟩
      rw [lv_cred]
      cases b
      · have := hd (by simp at h1; omega); simp at h1; omega
      · have := he (by simp at h1; omega); simp at h1; omega

end Cert.KernelIdealProof

end
-- ==== Proof.Ideal.Moves.lean ====
/- The kernel's single moves: sending a block, waiting for one, reporting a freed slot, waiting for such reports, and giving a landing
   slot back. Each is stated for a symbolic device, block and direction. -/
module

public import proofs.«01_k».proof.Proof.Ideal.Protocol

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable {α : Type}

local notation "𝕄" => MT nD τ sig ℕ (Elt F) ℕ UU ℕ

/-! ## The shared facts -/

/-- A core's own semaphores: in each direction the one freed slots are reported on, the four of its sends and the four of its receives. -/
def osem (j : Bool × Fin 9) : SemLoc sig :=
  if j.2.val = 0 then .reg (credS j.1) else if j.2.val < 5 then .dma (sendS j.1 (j.2.val - 1)) else .dma (recvS j.1 (j.2.val - 5))

/-- The barrier cells, -/
def barCells : Finset (GSem nD τ sig) := Finset.univ.image barCell
/-- and the cells of the cores' own semaphores. -/
def ownCells : Finset (GSem nD τ sig) := (Finset.univ : Finset (Dev nD × Bool × Fin 9)).image fun x => ((x.1 : Thread nD τ), osem x.2)
/-- The landing slots. -/
def keys : Finset Key := Finset.univ ×ˢ Finset.univ ×ˢ Finset.range 4

/-- A landing slot's elements, at any contents. -/
def Sl (x : Key) : sProp 𝕄 := slot ((slotM x.2.1 x.2.2).view.loc (x.1 : Thread nD τ)) (slotM x.2.1 x.2.2).view.set
instance Sl_storable (x : Key) : BI.Storable (upEmb : UEmb _ 𝕄) (Sl (F := F) x) := by unfold Sl; infer_instance

theorem Sl_eq (c : Dev nD) (b : Bool) (k : ℕ) : Sl (F := F) (c, b, k % 4) = slot ((slotM b k).view.loc (c : Thread nD τ)) (slotM b k).view.set :=
  congrArg (fun M : Memref sig .tc .vmem S512x1024 .f32 => slot (M.view.loc (c : Thread nD τ)) M.view.set) (slotM_mod b k)

theorem slot_nonempty (b : Bool) (k : ℕ) : (slotM b k).view.set.Nonempty :=
  ⟨_, Finset.mem_map.mpr ⟨fun a => ⟨0, by revert a; decide⟩, Finset.mem_univ _, rfl⟩⟩

variable (m : (ℓ : Loc nD τ sig) → Buf (Elt F) ℓ) (κ : GSem nD τ sig → ℕ) (ι : Key → ℕ)

/-- Every cell's and every slot's invariant, and the order of the waits. -/
def Ctx : sProp 𝕄 :=
  iprop(levAts L lv ∗ bigSep (barCells ∪ ownCells) (fun g => cellInv ER (Rd m) (κ g) g)
    ∗ bigSep keys (fun x => slotInv ES (ι x) x (Sl x)))

instance Ctx_persistent : BI.Persistent (Ctx m κ ι) := by unfold Ctx; infer_instance

theorem mem_bar (c : Dev nD) : barCell c ∈ barCells ∪ ownCells := Finset.mem_union_left _ (Finset.mem_image_of_mem _ (Finset.mem_univ c))
theorem mem_own {c : Dev nD} {sm : SemLoc sig} (h : ∃ j, osem j = sm) : ((c : Thread nD τ), sm) ∈ barCells ∪ ownCells := by
  obtain ⟨j, rfl⟩ := h
  exact Finset.mem_union_right _ (Finset.mem_image.mpr ⟨(c, j), Finset.mem_univ _, rfl⟩)
theorem mem_cred (b : Bool) (c : Dev nD) : credCell b c ∈ barCells ∪ ownCells := mem_own (by cases b <;> decide)
theorem mem_send (b : Bool) (k : ℕ) (c : Dev nD) : sendCell b k c ∈ barCells ∪ ownCells := mem_own (by
  rw [sendS_mod]
  have := Nat.mod_lt k (show 4 > 0 by decide)
  generalize k % 4 = s at this ⊢
  rcases s with _ | _ | _ | _ | s
  iterate 4 (cases b <;> decide)
  omega)
theorem mem_recv (b : Bool) (k : ℕ) (c : Dev nD) : recvCell b k c ∈ barCells ∪ ownCells := mem_own (by
  rw [recvS_mod]
  have := Nat.mod_lt k (show 4 > 0 by decide)
  generalize k % 4 = s at this ⊢
  rcases s with _ | _ | _ | _ | s
  iterate 4 (cases b <;> decide)
  omega)

omit [FloatOps F] in
theorem bigSep_at {I : Type} [DecidableEq I] {s : Finset I} {i : I} (h : i ∈ s) (Φ : I → sProp 𝕄) : bigSep s Φ ⊢ Φ i := bigSep_elim h

theorem ctx_cell {g : GSem nD τ sig} (h : g ∈ barCells ∪ ownCells) : Ctx m κ ι ⊢ cellInv ER (Rd m) (κ g) g := by
  unfold Ctx; iintro ⟨-, H, -⟩; iapply (bigSep_at h (fun g => cellInv ER (Rd m) (κ g) g)) $$ H
theorem ctx_slot (c : Dev nD) (b : Bool) (k : ℕ) :
    Ctx m κ ι ⊢ slotInv ES (ι (c, b, k % 4)) (c, b, k % 4) (Sl (F := F) (c, b, k % 4)) := by
  unfold Ctx; iintro ⟨-, -, H⟩
  iapply (bigSep_at (i := (c, b, k % 4)) (by
    unfold keys
    exact Finset.mem_product.mpr ⟨Finset.mem_univ _, Finset.mem_product.mpr ⟨Finset.mem_univ _, Finset.mem_range.mpr (Nat.mod_lt _ (by decide))⟩⟩) (fun x => slotInv ES (ι x) x (Sl (F := F) x))) $$ H
/-- The writer of a block takes the slot it lands in. -/
theorem ctx_take (c : Dev nD) (b : Bool) (k : ℕ) :
    iprop(Ctx m κ ι ∗ released ES (c, b, k % 4) (k / 4 + 1) ∗ writeTok ES (c, b, k % 4) (k / 4 + 1))
      ⊢ |={Set.univ}=> slot ((slotM b k).view.loc (c : Thread nD τ)) (slotM b k).view.set := by
  rw [← Sl_eq]
  iintro ⟨Hc, Hr, Hw⟩
  iapply (slot_take ES (ι := ι (c, b, k % 4)) (Set.mem_univ _) (k / 4 + 1))
  isplitl [Hc]; · iapply (ctx_slot m κ ι c b k) $$ Hc
  isplitl [Hr] <;> iassumption
theorem ctx_lev : Ctx m κ ι ⊢ (levAts L lv : sProp 𝕄) := by unfold Ctx; iintro ⟨H, -⟩; iexact H

set_option maxRecDepth 8000 in
/-- A device may wait for what is below everything it owes. -/
theorem ctx_mayWait (c : Dev nD) (sm : SemLoc sig) (i a y d e : ℕ) (hi : i < 32) (hx : a < 32 → lv ((c : Thread nD τ), sm) i < 10 * a + 2)
    (hy : y < 32 → lv ((c : Thread nD τ), sm) i < 10 * (y + 2) + 5) (hd : d < 28 → lv ((c : Thread nD τ), sm) i < 10 * (d + 2) + 8)
    (he : e < 28 → lv ((c : Thread nD τ), sm) i < 10 * (e + 2) + 8) :
    Ctx m κ ι ⊢ MayWait (c : Thread nD τ) sm i (Ow c a y d e) := (ctx_lev m κ ι).trans (mayWait_Ow c sm i a y d e hi hx hy hd he)

/-- The device owes `O`, whatever it has waited for. -/
def Owes (c : Dev nD) (O : CellTallies nD τ sig ℕ) : sProp 𝕄 := iprop(∃ W, owes (c : Thread nD τ) O W)

/-! ## Sending a block -/

/-- What a block's transfer credits does not depend on where the block lies. -/
theorem credit_eq {sp : Space} (M : Memref sig .tc sp S512x1024 .f32) : M.view.dmaCredit = N := by
  unfold N; rfl

/-- What the first transfer brings to a partner is a block of its own `x` partner's argument; what the second passes on is that. -/
theorem orig_peer_x (c : Dev nD) : orig false (peer false c) = c := xp_xp c
theorem orig_peer_y (c : Dev nD) : orig true (peer true c) = orig false c := by
  show xp (yp (yp c)) = xp c; rw [yp_yp]

omit [FloatOps F] in
/-- A slot written with `X` is owned at `X`. -/
theorem owns_written (c : Dev nD) (M : Memref sig .tc .vmem S512x1024 .f32) (fd : Buf (Elt F) (M.view.loc (c : Thread nD τ))) {X : S512x1024.Idx → Elt F .f32}
    {w : S512x1024.Idx → Elt F .f32} (h : w = X) :
    (M.view.loc (c : Thread nD τ) ↦[M.view.set]{fullShare} M.view.write (Elt F) fd w Finset.univ : sProp 𝕄) ⊢ owns (c : Thread nD τ) M fullShare X := by
  subst h
  have h := owns_intro (Ix := ℕ) (Name := ℕ) (U := UU) (Lvl := ℕ) (c : Thread nD τ) M fullShare (M.view.write (Elt F) fd w Finset.univ)
  rwa [View.read_write_univ] at h

theorem wp_block {c : Dev nD} {b : Bool} {k : ℕ} (hk : k < 32) {sp : Space} {src : Memref sig .tc sp S512x1024 .f32}
    {dst : Memref sig .tc .vmem S512x1024 .f32} (hdst' : dst = slotM b k) {sS sR : DmaSem sig} (hS : sS = sendS b k) (hR : sR = recvS b k)
    {n : Dev nD} (hn : n = peer b c) {q : PosShare TreeShare} {fs : Buf (Elt F) (src.view.loc (c : Thread nD τ))}
    (hread : src.view.read (Elt F) fs = blk m (orig b (peer b c)) k)
    (hpay : (src.view.loc (c : Thread nD τ) ↦[src.view.set]{q} fs : sProp 𝕄) ⊢ (Rd m).payload (sendCell b k c) (k / 4) 0)
    (O : CellTallies nD τ sig ℕ) {hsc hsrc hdst hsem}
    {p : PUnit → Prog (TpuEff nD τ sig (Elt F) Λ₀ .tc) α} {Q : α → sProp 𝕄} :
    iprop(Ctx m κ ι ∗ (src.view.loc (c : Thread nD τ) ↦[src.view.set]{q} fs) ∗ ready b (peer b c) k
        ∗ Owes c (O + tallyAt (recvCell b k (peer b c)) k N)
        ∗ dutyTok ER (sendCell b k c) (k / 4) 0 ∗ reached ER (sendCell b k c) (k / 4)
        ∗ dutyTok ER (recvCell b k (peer b c)) (k / 4) 0 ∗ writeTok ES (peer b c, b, k % 4) (k / 4 + 1))
      ⊢ iprop(((cred (tallyAt (sendCell b k c) 0 N) ∗ Owes c O) -∗ wp frame (wpE (defs₀ (F := F)) Variants.none (c : Thread nD τ) none) Set.univ (p ⟨⟩) Q)
        -∗ wp frame (wpE (defs₀ (F := F)) Variants.none (c : Thread nD τ) none) Set.univ
          (.op (.enqueueDma src (.remote (Dev.tc n) dst (.dma sS) hsc) (.dma sR) hsrc hdst hsem) p) Q) := by
  subst hdst' hS hR hn
  have hr : k / 4 < 8 := by omega
  unfold ready Owes
  iintro ⟨#Hc, Hsrc, ⟨#Hrel, #Hrch, -⟩, ⟨%W, HL⟩, Hd1, Hr1, Hd2, Hw⟩ Hk
  ihave #Hi1 := ctx_cell m κ ι (mem_send b k c) $$ Hc
  ihave #Hi2 := ctx_cell m κ ι (mem_recv b k (peer b c)) $$ Hc
  imod (ctx_take m κ ι (peer b c) b k) $$ [Hrel Hw] with Hs
  · isplitl []; · iexact Hc
    isplitl [Hrel] <;> iassumption
  unfold slot
  icases Hs with ⟨%fd, Hs⟩
  iapply (Rounds.wp_send_pointsTo Variants.none ER (Rd m) (c : Thread nD τ) none (r₁ := k / 4) (r₂ := k / 4) (d₁ := 0) (d₂ := 0)
    (src := src) (dst := slotM b k) (c' := (peer b c : Thread nD τ)) (sS := .dma (sendS b k)) (sem := .dma (recvS b k)) (q := q) (fs := fs) (κ₁ := κ (sendCell b k c)) (κ₂ := κ (recvCell b k (peer b c))) (fd := fd)
    (by rw [duties_send m c b k _ hr]; exact Finset.mem_singleton_self _) (by rw [duties_recv m _ b k _ hr]; exact Finset.mem_singleton_self _)
    k 0 N (credit_eq _) (amount_send m c b k _ _) (amount_recv m _ b k _ _) O rfl hpay
    ((owns_written (peer b c) (slotM b k) fd hread).trans (Entails.of_eq (payload_recv m _ b k 0).symm))) $$ [Hi1 Hi2 Hsrc Hs HL Hd1 Hr1 Hd2 Hrch] [Hk]
  rotate_left
  · iintro ⟨Hcr, HL⟩; iapply Hk; isplitl [Hcr]; · iexact Hcr
    iexists W; iexact HL
  isplitl [Hi1]; · iexact Hi1
  isplitl [Hi2]; · iexact Hi2
  isplitl [Hsrc]; · iexact Hsrc
  isplitl [Hs]; · iexact Hs
  isplitl [HL]; · iexact HL
  isplitl [Hd1]; · iexact Hd1
  isplitl [Hr1]; · iexact Hr1
  isplitl [Hd2]; · iexact Hd2
  iexact Hrch

/-! ## Waiting for a transfer -/

/-- A wait for the one transfer of a cell's round: the round's payload comes out. -/
theorem wp_arrived {c : Dev nD} {sm : DmaSem sig} {r : ℕ} (hmem : ((c : Thread nD τ), SemLoc.dma sm) ∈ barCells ∪ ownCells)
    (hduty : (Rd (F := F) m).duties ((c : Thread nD τ), .dma sm) r = {0}) (hexp : (Rd (F := F) m).expect ((c : Thread nD τ), .dma sm) r = N)
    {sm' : DmaSem sig} (hs : sm' = sm) (i : ℕ) (O : CellTallies nD τ sig ℕ) {sp sp' : Space} {src : Memref sig .tc sp S512x1024 .f32}
    {dst : Memref sig .tc sp' S512x1024 .f32} {hsrc hdst}
    {p : PUnit → Prog (TpuEff nD τ sig (Elt F) Λ₀ .tc) α} {Q : α → sProp 𝕄} :
    iprop(Ctx m κ ι ∗ cred (tallyAt ((c : Thread nD τ), .dma sm) i N) ∗ Owes c O ∗ MayWait (c : Thread nD τ) (.dma sm) i O
        ∗ atPos ER ((c : Thread nD τ), .dma sm) r ∅ 0)
      ⊢ iprop(((Owes c O ∗ atPos ER ((c : Thread nD τ), .dma sm) (r + 1) ∅ 0 ∗ reached ER ((c : Thread nD τ), .dma sm) (r + 1)
            ∗ (Rd m).payload ((c : Thread nD τ), .dma sm) r 0)
          -∗ wp frame (wpE (defs₀ (F := F)) Variants.none (c : Thread nD τ) none) Set.univ (p ⟨⟩) Q)
        -∗ wp frame (wpE (defs₀ (F := F)) Variants.none (c : Thread nD τ) none) Set.univ (.op (.waitDma2 sm' src dst hsrc hdst) p) Q) := by
  subst hs
  unfold Owes
  iintro ⟨#Hc, Hcr, ⟨%W, HL⟩, Hm, Hat⟩ Hk
  ihave #Hi := ctx_cell m κ ι hmem $$ Hc
  iapply (Rounds.wp_wait_rest_token Variants.none ER (Rd m) (c : Thread nD τ) none (κ := κ ((c : Thread nD τ), .dma sm')) (sm := .dma sm') (k' := N)
    (fun K => by rw [wpE_waitDma2_eq Variants.none (c : Thread nD τ) none Set.univ, credit_eq dst]) (Set.mem_univ _) i (O := O) (W := W) (R := r) (m := 0) (T := ∅)
    (by rw [hexp, Nat.zero_add])) $$ [Hi Hcr HL Hm Hat] [Hk]
  · isplitl [Hi]; · iexact Hi
    isplitl [Hcr]; · iexact Hcr
    isplitl [HL]; · iexact HL
    isplitl [Hm] <;> iassumption
  · rw [hduty, Finset.sdiff_empty]
    iintro ⟨HL, Hat, Hr, Hp⟩
    iapply Hk
    isplitl [HL]; · iexists _; iexact HL
    isplitl [Hat]; · iexact Hat
    isplitl [Hr]; · iexact Hr
    iapply (bigSep_at (Finset.mem_singleton_self 0) (fun d => (Rd m).payload ((c : Thread nD τ), .dma sm') r d)) $$ Hp

/-! ## Reports of freed slots -/

/-- Reporting that block `j`'s slot is free again. -/
theorem wp_report {c : Dev nD} {b : Bool} {j : ℕ} (hj : j < 28) {n : Dev nD} (hn : n = peer b c) {s : Sem sig} (hs : s = credS b) {z : ℤ}
    (hz : z = ((1 : ℕ) : ℤ)) (O : CellTallies nD τ sig ℕ) {p : PUnit → Prog (TpuEff nD τ sig (Elt F) Λ₀ .tc) α} {Q : α → sProp 𝕄} :
    iprop(Ctx m κ ι ∗ Owes c (O + tallyAt (credCell b (peer b c)) j 1) ∗ dutyTok ER (credCell b (peer b c)) 0 j ∗ free b c (j + 5)
        ∗ reached ER (credCell b (peer b c)) 0)
      ⊢ iprop((Owes c O -∗ wp frame (wpE (defs₀ (F := F)) Variants.none (c : Thread nD τ) none) Set.univ (p ⟨⟩) Q)
        -∗ wp frame (wpE (defs₀ (F := F)) Variants.none (c : Thread nD τ) none) Set.univ (.op (.semSignal (Dev.tc n) s z) p) Q) := by
  subst hn hs hz
  unfold Owes
  iintro ⟨#Hc, ⟨%W, HL⟩, Hd, Hf, Hr⟩ Hk
  ihave #Hi := ctx_cell m κ ι (mem_cred b (peer b c)) $$ Hc
  iapply (Rounds.wp_signal Variants.none ER (Rd m) (c : Thread nD τ) none (dst := (peer b c : Thread nD τ)) (sem := credS b) (r := 0) (d := j) (k' := 1)
    (κ := κ (credCell b (peer b c))) (by rw [duties_cred]; exact Finset.mem_range.mpr hj) (amount_cred m _ _ _ _) j (O₀ := O + tallyAt (credCell b (peer b c)) j 1) O rfl (W := W)) $$ [Hi HL Hd Hf Hr] [Hk]
  · isplitl [Hi]; · iexact Hi
    isplitl [HL]; · iexact HL
    isplitl [Hd]; · iexact Hd
    isplitl [Hf]
    · rw [payload_cred, peer_peer]; iexact Hf
    iexact Hr
  · iintro HL; iapply Hk; iexists W; iexact HL

omit [FloatOps F] in
/-- The first of a run, and the rest. -/
theorem Ico_peel {a b : ℕ} (h : a < b) (Φ : ℕ → sProp 𝕄) : bigSep (Finset.Ico a b) Φ = iprop(Φ a ∗ bigSep (Finset.Ico (a + 1) b) Φ) := by
  rw [show Finset.Ico a b = insert a (Finset.Ico (a + 1) b) by ext x; simp only [Finset.mem_insert, Finset.mem_Ico]; omega,
    bigSep_insert (by rw [Finset.mem_Ico]; omega)]
  rfl

/-- A device that has waited for `w` of the reports of a direction. -/
def CredSt (c : Dev nD) (b : Bool) (w : ℕ) : sProp 𝕄 :=
  iprop(bigSep (Finset.Ico w 28) (fun j => cred (tallyAt (credCell b c) j 1))
    ∗ (if w < 28 then iprop(∃ T : Finset ℕ, ⌜T ⊆ Finset.range 28⌝ ∗ atPos ER (credCell b c) 0 T w ∗ bigSep T (fun d => free b (peer b c) (d + 5)))
        else atPos ER (credCell b c) 1 ∅ 0))

/-- Among the first `w + 1` reports to arrive is one of block `w` or a later block. -/
theorem exists_ge {S : Finset ℕ} {w : ℕ} (hS : S ⊆ Finset.range 28) (h : w + 1 + (Finset.range 28 \ S).card ≤ 28) : ∃ d ∈ S, w ≤ d := by
  by_contra hn
  push Not at hn
  have h1 : S ⊆ Finset.range w := fun d hd => Finset.mem_range.mpr (hn d hd)
  have h2 := Finset.card_le_card h1
  rw [Finset.card_range] at h2
  have h3 := Finset.card_sdiff_add_card_eq_card hS
  rw [Finset.card_range] at h3
  omega

omit [FloatOps F] in
/-- Free slots before `n`: each of them is. -/
theorem free_ready {b : Bool} {p : Dev nD} {k n : ℕ} (h : k < n) : free (F := F) b p n ⊢ ready b p k := by
  unfold free; exact bigSep_at (Finset.mem_range.mpr h) _

omit [FloatOps F] in
/-- The reports that came before and those that came now. -/
theorem cred_gather (c : Dev nD) (b : Bool) {S T : Finset ℕ} (h : T ⊆ S) :
    iprop(bigSep T (fun d => free (F := F) b (peer b c) (d + 5)) ∗ bigSep (S \ T) (fun d => (Rd m).payload (credCell b c) 0 d))
      ⊢ bigSep S (fun d => free b (peer b c) (d + 5)) := by
  simp only [payload_cred]
  exact Entails.of_eq (by
    have := bigSep_union (Φ := fun d => free (F := F) b (peer b c) (d + 5)) (Finset.disjoint_sdiff (s := T) (t := S))
    rw [Finset.union_sdiff_of_subset h] at this
    exact this.symm)
omit [FloatOps F] in
theorem cred_ready (c : Dev nD) (b : Bool) {S : Finset ℕ} {w : ℕ} (hS : S ⊆ Finset.range 28) (h : w + 1 + (Finset.range 28 \ S).card ≤ 28) :
    bigSep S (fun d => free (F := F) b (peer b c) (d + 5)) ⊢ ready b (peer b c) (w + 4) := by
  obtain ⟨d, hd, hw⟩ := exists_ge hS h
  exact (bigSep_at hd (fun d => free (F := F) b (peer b c) (d + 5))).trans (free_ready (by omega))

/-- Waiting for a report: one more slot of the partner's may be written. -/
theorem wp_reported {c : Dev nD} {b : Bool} {w : ℕ} (hw : w < 28) {s : Sem sig} (hs : s = credS b) {z : ℤ} (hz : z = ((1 : ℕ) : ℤ))
    (O : CellTallies nD τ sig ℕ) {p : PUnit → Prog (TpuEff nD τ sig (Elt F) Λ₀ .tc) α} {Q : α → sProp 𝕄} :
    iprop(Ctx m κ ι ∗ CredSt c b w ∗ Owes c O ∗ MayWait (c : Thread nD τ) (.reg (credS b)) w O)
      ⊢ iprop(((Owes c O ∗ CredSt c b (w + 1) ∗ ready b (peer b c) (w + 4)) -∗ wp frame (wpE (defs₀ (F := F)) Variants.none (c : Thread nD τ) none) Set.univ (p ⟨⟩) Q)
        -∗ wp frame (wpE (defs₀ (F := F)) Variants.none (c : Thread nD τ) none) Set.univ (.op (.semWait s z) p) Q) := by
  subst hs hz
  unfold Owes CredSt
  rw [if_pos hw, Ico_peel hw]
  iintro ⟨#Hc, ⟨⟨Hcr, Hcrs⟩, ⟨%T, %hT, Hat, #HT⟩⟩, ⟨%W, HL⟩, Hm⟩ Hk
  ihave #Hi := ctx_cell m κ ι (mem_cred b c) $$ Hc
  by_cases h : w + 1 < 28
  · iapply (Rounds.wp_wait Variants.none ER (Rd m) (c : Thread nD τ) none (κ := κ (credCell b c)) (sm := .reg (credS b)) (k' := 1)
      (wpE_semWait_eq Variants.none (c : Thread nD τ) none Set.univ) (Set.mem_univ _) (cr := Finsupp.single w 1) (O := O) (W := W) {(.reg (credS b), w)}
      (R := 0) (m := w) (T := T) (Util.total_single _ _) (image_single_subset _ w 1)) $$ [Hi Hcr HL Hm Hat] [Hk Hcrs]
    · isplitl [Hi]; · iexact Hi
      isplitl [Hcr]; · iexact Hcr
      isplitl [HL]; · iexact HL
      isplitl [Hm] <;> iassumption
    · iintro %S ⟨%hS, HL, Hat, Hp⟩
      rw [duties_cred, expect_cred] at hS
      ihave #HS := cred_gather m c b hS.1 $$ [HT Hp]
      · isplitl [HT] <;> iassumption
      iapply Hk
      isplitl [HL]; · iexists _; iexact HL
      isplitl [Hcrs Hat]
      · isplitl [Hcrs]; · iexact Hcrs
        rw [if_pos h]
        iexists S
        isplitr; · ipureintro; exact hS.2.1
        isplitl [Hat] <;> iassumption
      iapply (cred_ready c b hS.2.1 hS.2.2) $$ HS
  · obtain rfl : w = 27 := by omega
    iapply (Rounds.wp_wait_rest_token Variants.none ER (Rd m) (c : Thread nD τ) none (κ := κ (credCell b c)) (sm := .reg (credS b)) (k' := 1)
      (wpE_semWait_eq Variants.none (c : Thread nD τ) none Set.univ) (Set.mem_univ _) 27 (O := O) (W := W)
      (R := 0) (m := 27) (T := T) (by rw [expect_cred])) $$ [Hi Hcr HL Hm Hat] [Hk Hcrs]
    · isplitl [Hi]; · iexact Hi
      isplitl [Hcr]; · iexact Hcr
      isplitl [HL]; · iexact HL
      isplitl [Hm] <;> iassumption
    · rw [duties_cred]
      iintro ⟨HL, Hat, -, Hp⟩
      ihave #HS := cred_gather m c b hT $$ [HT Hp]
      · isplitl [HT] <;> iassumption
      iapply Hk
      isplitl [HL]; · iexists _; iexact HL
      isplitl [Hcrs Hat]
      · isplitl [Hcrs]; · iexact Hcrs
        rw [if_neg h]
        iexact Hat
      iapply (cred_ready c b (w := 27) subset_rfl (by rw [Finset.sdiff_self]; rfl)) $$ HS

/-! ## The barrier -/

/-- Telling a partner that the four slots it writes to are free. -/
theorem wp_hello {c : Dev nD} {b : Bool} {n : Dev nD} (hn : n = peer b c) {z : ℤ} (hz : z = ((1 : ℕ) : ℤ)) (O : CellTallies nD τ sig ℕ)
    {p : PUnit → Prog (TpuEff nD τ sig (Elt F) Λ₀ .tc) α} {Q : α → sProp 𝕄} :
    iprop(Ctx m κ ι ∗ Owes c (O + tallyAt (barCell (peer b c)) 0 1) ∗ dutyTok ER (barCell (peer b c)) 0 (if b then 1 else 0) ∗ free b c 4
        ∗ reached ER (barCell (peer b c)) 0)
      ⊢ iprop((Owes c O -∗ wp frame (wpE (defs₀ (F := F)) Variants.none (c : Thread nD τ) none) Set.univ (p ⟨⟩) Q)
        -∗ wp frame (wpE (defs₀ (F := F)) Variants.none (c : Thread nD τ) none) Set.univ (.op (.semSignal (Dev.tc n) barS z) p) Q) := by
  subst hn hz
  unfold Owes
  iintro ⟨#Hc, ⟨%W, HL⟩, Hd, Hf, Hr⟩ Hk
  ihave #Hi := ctx_cell m κ ι (mem_bar (peer b c)) $$ Hc
  iapply (Rounds.wp_signal Variants.none ER (Rd m) (c : Thread nD τ) none (dst := (peer b c : Thread nD τ)) (sem := barS) (r := 0) (d := if b then 1 else 0) (k' := 1)
    (κ := κ (barCell (peer b c))) (by rw [duties_bar]; cases b <;> decide) (amount_bar m _ _ _) 0 (O₀ := O + tallyAt (barCell (peer b c)) 0 1) O rfl (W := W)) $$ [Hi HL Hd Hf Hr] [Hk]
  · isplitl [Hi]; · iexact Hi
    isplitl [HL]; · iexact HL
    isplitl [Hd]; · iexact Hd
    isplitl [Hf]
    · iapply (show free (F := F) b c 4 ⊢ (Rd m).payload (barCell (peer b c)) 0 (if b then 1 else 0) by
        cases b
        · exact Entails.of_eq (by rw [if_neg (by decide), payload_bar_x, peer_peer])
        · exact Entails.of_eq (by rw [if_pos rfl, payload_bar_y, peer_peer])) $$ Hf
    iexact Hr
  · iintro HL; iapply Hk; iexists W; iexact HL

omit [FloatOps F] in
theorem bigSep_two (Φ : ℕ → sProp 𝕄) : bigSep {0, 1} Φ = iprop(Φ 0 ∗ Φ 1) := by
  rw [bigSep_insert (by decide), bigSep_singleton]; rfl

/-- Waiting for both partners: their slots are free. -/
theorem wp_meet {c : Dev nD} {z : ℤ} (hz : z = ((2 : ℕ) : ℤ)) (O : CellTallies nD τ sig ℕ)
    {p : PUnit → Prog (TpuEff nD τ sig (Elt F) Λ₀ .tc) α} {Q : α → sProp 𝕄} :
    iprop(Ctx m κ ι ∗ cred (tallyAt (barCell c) 0 2) ∗ Owes c O ∗ MayWait (c : Thread nD τ) (.reg barS) 0 O ∗ atPos ER (barCell c) 0 ∅ 0)
      ⊢ iprop(((Owes c O ∗ atPos ER (barCell c) 1 ∅ 0 ∗ free false (peer false c) 4 ∗ free true (peer true c) 4)
          -∗ wp frame (wpE (defs₀ (F := F)) Variants.none (c : Thread nD τ) none) Set.univ (p ⟨⟩) Q)
        -∗ wp frame (wpE (defs₀ (F := F)) Variants.none (c : Thread nD τ) none) Set.univ (.op (.semWait barS z) p) Q) := by
  subst hz
  unfold Owes
  iintro ⟨#Hc, Hcr, ⟨%W, HL⟩, Hm, Hat⟩ Hk
  ihave #Hi := ctx_cell m κ ι (mem_bar c) $$ Hc
  iapply (Rounds.wp_wait_rest_token Variants.none ER (Rd m) (c : Thread nD τ) none (κ := κ (barCell c)) (sm := .reg barS) (k' := 2)
    (wpE_semWait_eq Variants.none (c : Thread nD τ) none Set.univ) (Set.mem_univ _) 0 (O := O) (W := W) (R := 0) (m := 0) (T := ∅)
    (by rw [expect_bar])) $$ [Hi Hcr HL Hm Hat] [Hk]
  · isplitl [Hi]; · iexact Hi
    isplitl [Hcr]; · iexact Hcr
    isplitl [HL]; · iexact HL
    isplitl [Hm] <;> iassumption
  · rw [duties_bar, Finset.sdiff_empty, bigSep_two, payload_bar_x, payload_bar_y]
    iintro ⟨HL, Hat, -, Hx, Hy⟩
    iapply Hk
    isplitl [HL]; · iexists _; iexact HL
    isplitl [Hat]; · iexact Hat
    isplitl [Hx] <;> iassumption

/-! ## Giving a slot back -/

/-- The reader of a slot gives it back for the next block that lands in it. -/
theorem ctx_release (c : Dev nD) (b : Bool) (k n : ℕ) :
    iprop(Ctx m κ ι ∗ readerAt ES (c, b, k % 4) n ∗ slot ((slotM b k).view.loc (c : Thread nD τ)) (slotM b k).view.set)
      ⊢ |={Set.univ}=> (readerAt ES (c, b, k % 4) (n + 1) ∗ released ES (c, b, k % 4) (n + 1)) := by
  iintro ⟨Hc, Hr, Hs⟩
  iapply (slot_release ES (ι := ι (c, b, k % 4)) (k := (c, b, k % 4)) (S := Sl (F := F) (c, b, k % 4)) (Set.mem_univ _)
    (by rw [Sl_eq]; exact slot_slot_false (slot_nonempty b k)) n)
  isplitl [Hc]; · iapply (ctx_slot m κ ι c b k) $$ Hc
  isplitl [Hr]; · iexact Hr
  iapply (Entails.of_eq (Sl_eq c b k).symm) $$ Hs

end Cert.KernelIdealProof

end
-- ==== Proof.Ideal.State.lean ====
/- What a device holds between the kernel's steps, and how the next step's share is taken out of it. -/
module

public import proofs.«01_k».proof.Proof.Ideal.Moves

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The slots' use -/

/-- How many of the blocks before `p` landed in slot `s`. -/
def cnt (p s : ℕ) : ℕ := (p + 3 - s) / 4

theorem cnt_self (p : ℕ) : cnt p (p % 4) = p / 4 := by unfold cnt; omega
theorem cnt_succ (p : ℕ) : cnt (p + 1) (p % 4) = p / 4 + 1 := by unfold cnt; omega
theorem cnt_other {p s : ℕ} (hs : s < 4) (h : s ≠ p % 4) : cnt (p + 1) s = cnt p s := by unfold cnt; omega
theorem cnt_ahead {p a : ℕ} (h : p ≤ a) (h' : a < p + 4) : cnt p (a % 4) = a / 4 := by unfold cnt; omega

omit [FloatOps F] in
/-- The next block's slot, taken out of the four and put back. -/
theorem slot_step (Φ : ℕ → ℕ → sProp 𝕄) (p : ℕ) :
    bigSep (Finset.range 4) (fun s => Φ s (cnt p s))
      ⊢ iprop(Φ (p % 4) (p / 4) ∗ (Φ (p % 4) (p / 4 + 1) -∗ bigSep (Finset.range 4) fun s => Φ s (cnt (p + 1) s))) := by
  have hm : p % 4 ∈ Finset.range 4 := Finset.mem_range.mpr (Nat.mod_lt _ (by decide))
  have e1 : bigSep (Finset.range 4) (fun s => Φ s (cnt p s)) = iprop(Φ (p % 4) (p / 4) ∗ bigSep ((Finset.range 4).erase (p % 4)) fun s => Φ s (cnt p s)) := by
    rw [← cnt_self]; exact BI.bigSep_erase (Φ := fun s => Φ s (cnt p s)) hm
  have e2 : bigSep (Finset.range 4) (fun s => Φ s (cnt (p + 1) s))
      = iprop(Φ (p % 4) (p / 4 + 1) ∗ bigSep ((Finset.range 4).erase (p % 4)) fun s => Φ s (cnt p s)) := by
    rw [← cnt_succ, show (bigSep ((Finset.range 4).erase (p % 4)) fun s => Φ s (cnt p s)) = bigSep ((Finset.range 4).erase (p % 4)) fun s => Φ s (cnt (p + 1) s) from
      bigSep_congr fun s hs => by
        rw [Finset.mem_erase, Finset.mem_range] at hs
        rw [cnt_other hs.2 hs.1]]
    exact BI.bigSep_erase (Φ := fun s => Φ s (cnt (p + 1) s)) hm
  rw [e1, e2]
  iintro ⟨H, Hs⟩
  isplitl [H]; · iexact H
  iintro H
  isplitl [H] <;> iassumption

/-- The receiving and the sending side of slot `s` in a direction after `n` uses: the positions of its two cells, and the next
    release of the slot — after the last use the slot itself. -/
def Seat (c : Dev nD) (b : Bool) (s n : ℕ) : sProp 𝕄 :=
  iprop(atPos ER (recvCell b s c) n ∅ 0 ∗ atPos ER (sendCell b s c) n ∅ 0 ∗ reached ER (sendCell b s c) n
    ∗ (if n < 8 then readerAt ES (c, b, s % 4) (n + 1) else Sl (c, b, s % 4)))

omit [FloatOps F] in
theorem Seat_mod (c : Dev nD) (b : Bool) (k n : ℕ) : Seat (F := F) c b (k % 4) n = Seat c b k n := by
  unfold Seat recvCell sendCell; rw [← recvS_mod, ← sendS_mod, Nat.mod_mod]

/-- The four slots of a direction when the blocks before `p` have been used. -/
def Seats (c : Dev nD) (b : Bool) (p : ℕ) : sProp 𝕄 := bigSep (Finset.range 4) fun s => Seat c b s (cnt p s)

omit [FloatOps F] in
theorem Seats_step (c : Dev nD) (b : Bool) (p : ℕ) :
    Seats (F := F) c b p ⊢ iprop(Seat c b p (p / 4) ∗ (Seat c b p (p / 4 + 1) -∗ Seats c b (p + 1))) := by
  have h := slot_step (fun s n => Seat (F := F) c b s n) p
  rw [Seat_mod, Seat_mod] at h
  exact h

omit [FloatOps F] in
/-- The send cell of a block not more than three ahead is at its round. -/
theorem Seats_reached {c : Dev nD} {b : Bool} {p a : ℕ} (h : p ≤ a) (h' : a < p + 4) :
    Seats (F := F) c b p ⊢ reached ER (sendCell b a c) (a / 4) := by
  refine (bigSep_at (i := a % 4) (Finset.mem_range.mpr (Nat.mod_lt _ (by decide))) (fun s => Seat c b s (cnt p s))).trans ?_
  rw [cnt_ahead h h', Seat_mod]
  unfold Seat
  iintro ⟨-, -, H, -⟩
  iexact H

/-! ## What is still to be sent, waited for and reported -/

/-- The right to send block `k`: the two cells' signals, and the right to write the partner's slot. -/
def Right (b : Bool) (c : Dev nD) (k : ℕ) : sProp 𝕄 :=
  iprop(dutyTok ER (sendCell b k c) (k / 4) 0 ∗ dutyTok ER (recvCell b k (peer b c)) (k / 4) 0 ∗ writeTok ES (peer b c, b, k % 4) (k / 4 + 1))
def Rights (b : Bool) (c : Dev nD) (lo : ℕ) : sProp 𝕄 := bigSep (Finset.Ico lo 32) fun k => Right b c k
/-- The arrivals still to come. -/
def Due (b : Bool) (c : Dev nD) (p : ℕ) : sProp 𝕄 := bigSep (Finset.Ico p 32) fun k => cred (tallyAt (recvCell b k c) k N)
/-- The reports still to be made. -/
def Reports (b : Bool) (c : Dev nD) (d : ℕ) : sProp 𝕄 := bigSep (Finset.Ico d 28) fun k => dutyTok ER (credCell b (peer b c)) 0 k
/-- The completions of sends along `x` still to be waited for. -/
def Flying (c : Dev nD) (p a : ℕ) : sProp 𝕄 := bigSep (Finset.Ico p a) fun k => cred (tallyAt (sendCell false k c) 0 N)

omit [FloatOps F] in
theorem Rights_peel {b : Bool} {c : Dev nD} {k : ℕ} (h : k < 32) : Rights (F := F) b c k ⊢ iprop(Right b c k ∗ Rights b c (k + 1)) := by
  unfold Rights; exact Entails.of_eq (Ico_peel h _)
omit [FloatOps F] in
theorem Due_peel {b : Bool} {c : Dev nD} {k : ℕ} (h : k < 32) : Due (F := F) b c k ⊢ iprop(cred (tallyAt (recvCell b k c) k N) ∗ Due b c (k + 1)) := by
  unfold Due; exact Entails.of_eq (Ico_peel h _)
omit [FloatOps F] in
theorem Reports_peel {b : Bool} {c : Dev nD} {k : ℕ} (h : k < 28) : Reports (F := F) b c k ⊢ iprop(dutyTok ER (credCell b (peer b c)) 0 k ∗ Reports b c (k + 1)) := by
  unfold Reports; exact Entails.of_eq (Ico_peel h _)
omit [FloatOps F] in
theorem Flying_peel {c : Dev nD} {p a : ℕ} (h : p < a) : Flying (F := F) c p a ⊢ iprop(cred (tallyAt (sendCell false p c) 0 N) ∗ Flying c (p + 1) a) := by
  unfold Flying; exact Entails.of_eq (Ico_peel h _)
omit [FloatOps F] in
theorem Flying_push {c : Dev nD} {p a : ℕ} (h : p ≤ a) : iprop(cred (tallyAt (sendCell false a c) 0 N) ∗ Flying c p a) ⊢ Flying (F := F) c p (a + 1) := by
  unfold Flying
  rw [show Finset.Ico p (a + 1) = insert a (Finset.Ico p a) by ext x; simp only [Finset.mem_insert, Finset.mem_Ico]; omega,
    bigSep_insert (by rw [Finset.mem_Ico]; omega)]
  exact .rfl
omit [FloatOps F] in
theorem free_push (b : Bool) (p : Dev nD) (n : ℕ) : iprop(free b p n ∗ ready b p n) ⊢ free (F := F) b p (n + 1) := by
  unfold free
  rw [Finset.range_add_one, bigSep_insert Finset.notMem_range_self]
  exact sep_comm.1

omit [FloatOps F] in
theorem free_le (b : Bool) (p : Dev nD) {k n : ℕ} (h : k ≤ n) : free (F := F) b p n ⊢ free b p k := by
  unfold free; exact bigSep_subset (Finset.range_mono h)

/-- A half of what is held of the argument is lent with every send. -/
def Arg (m : (ℓ : Loc nD τ sig) → Buf (Elt F) ℓ) (c : Dev nD) : sProp 𝕄 := iprop(∃ q, (c : Thread nD τ).loc main_arg0 ↦{q} xv m c)

omit [FloatOps F] in
theorem Arg_lend (m : (ℓ : Loc nD τ sig) → Buf (Elt F) ℓ) (c : Dev nD) (k : ℕ) :
    Arg m c ⊢ iprop(Arg m c ∗ ∃ q, (srcM c k).view.loc (c : Thread nD τ) ↦[(srcM c k).view.set]{q} xv m c) := by
  unfold Arg
  iintro ⟨%q, H⟩
  ihave ⟨H1, H2⟩ := (pointsTo_share (PosShare.mem_left_op_right q)).1 $$ H
  isplitl [H1]; · iexists _; iexact H1
  iexists _
  ihave ⟨H, -⟩ := (pointsTo_split_subset (Finset.subset_univ (srcM c k).view.set)).1 $$ H2
  iexact H

/-! ## The state -/

variable (m : (ℓ : Loc nD τ sig) → Buf (Elt F) ℓ)

/-- What a device holds, apart from what it owes and the partners' word that their slots are free: `a` blocks sent along `x`, `p` blocks
    used, `u` reports along `x` waited for. -/
def Core (c : Dev nD) (a p u : ℕ) : sProp 𝕄 :=
  iprop(Seats c false p ∗ Seats c true p ∗ Rights false c a ∗ Rights true c p ∗ Due false c p ∗ Due true c p ∗ Reports false c p ∗ Reports true c p
    ∗ CredSt c false u ∗ CredSt c true (p - 4) ∗ Flying c p a ∗ Arg m c)
/-- What it knows: its own free slots. -/
def Mine (c : Dev nD) (p : ℕ) : sProp 𝕄 := iprop(free false c (min (p + 4) 32) ∗ free true c (min (p + 4) 32))
/-- What it knows since it met its partners. -/
def Met (c : Dev nD) : sProp 𝕄 := iprop(free false (peer false c) 4 ∗ free true (peer true c) 4)
instance Mine_persistent (c : Dev nD) (p : ℕ) : BI.Persistent (Mine (F := F) c p) := by unfold Mine; infer_instance
instance Met_persistent (c : Dev nD) : BI.Persistent (Met (F := F) c) := by unfold Met; infer_instance

/-- Between two steps. -/
def St (c : Dev nD) (a p u : ℕ) : sProp 𝕄 := iprop(Core m c a p u ∗ Mine c p ∗ Met c ∗ atPos ER (barCell c) 1 ∅ 0)
/-- Before the first grid point. -/
def Start (c : Dev nD) : sProp 𝕄 :=
  iprop(Core m c 0 0 0 ∗ Mine c 0 ∗ atPos ER (barCell c) 0 ∅ 0 ∗ cred (tallyAt (barCell c) 0 2)
    ∗ (dutyTok ER (barCell (peer false c)) 0 0 ∗ reached ER (barCell (peer false c)) 0)
    ∗ (dutyTok ER (barCell (peer true c)) 0 1 ∗ reached ER (barCell (peer true c)) 0))

end Cert.KernelIdealProof

end
-- ==== Proof.Ideal.Block.lean ====
/- One block of the result: what the body computes from the block of the argument in its window and the two blocks that landed, and
   the loads of a landing slot and of a window. -/
module

public import proofs.«01_k».proof.Proof.Ideal.State
public import Idealize.ShloMosaic.Lib.WritesUnit
public import Idealize.ShloMosaic.Lib.Writes
public import Idealize.ShloMosaic.Lib.Pipeline.Value
public import Idealize.ShloMosaic.Lib.Exec.Geometry
public import Idealize.ShloMosaic.Lib.Pipeline.ValueKit.Tiles

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable {α : Type}

local notation "𝕄" => MT nD τ sig ℕ (Elt F) ℕ UU ℕ

variable (m : (ℓ : Loc nD τ sig) → Buf (Elt F) ℓ)

/-! ## Contents -/

/-- The element of the argument at row `r` of block `j` and column `q`. -/
def at_ (j : ℕ) (y : S1024x1024.Idx) : S32768x1024.Idx := fun a =>
  ⟨(![1024 * (j % 32) + (y (0 : Fin 2)).val, (y (1 : Fin 2)).val] : Fin 2 → ℕ) a, by
    have h0 : (y (0 : Fin 2)).val < 1024 := (y (0 : Fin 2)).isLt
    have h1 : (y (1 : Fin 2)).val < 1024 := (y (1 : Fin 2)).isLt
    have := Nat.mod_lt j (show 32 > 0 by decide)
    fin_cases a
    · show 1024 * (j % 32) + (y (0 : Fin 2)).val < 32768; omega
    · exact h1⟩

/-- Block `j` of device `c`'s argument. -/
def xblk (c : Dev nD) (j : ℕ) : S1024x1024.Idx → Elt F .f32 := fun y => xv m c (at_ j y)

/-- Whose argument is added at row `r` of a block: the half a device sends is its `x` partner's, the other half comes by its `y` partner. -/
def who (c : Dev nD) (r : ℕ) : Dev nD := orig (decide (r / 512 ≠ yc c)) c

/-- Block `j` of device `c`'s result. -/
def outv (c : Dev nD) (j : ℕ) : S1024x1024.Idx → Elt F .f32 := fun y =>
  FloatOps.addf (xv m c (at_ j y)) (xv m (who c (y (0 : Fin 2)).val) (at_ j y))

/-- A block that is sent, by its element. -/
theorem blk_apply (d : Dev nD) (k : ℕ) (x : S512x1024.Idx) (y : S1024x1024.Idx) (h0 : (y (0 : Fin 2)).val = 512 * yc d + (x (0 : Fin 2)).val)
    (h1 : (y (1 : Fin 2)).val = (x (1 : Fin 2)).val) : blk m d k x = xv m d (at_ k y) := by
  show xv m d _ = xv m d _
  congr 1
  refine funext fun a => Fin.ext ?_
  fin_cases a
  · show 1024 * (k % 32) + 512 * yc d + 1 * (x (0 : Fin 2)).val = 1024 * (k % 32) + (y (0 : Fin 2)).val; omega
  · show 0 + 1 * (x (1 : Fin 2)).val = (y (1 : Fin 2)).val; omega

theorem yc_orig_x (c : Dev nD) : yc (orig false c) = yc c := yc_xp c
theorem yc_orig_y (c : Dev nD) : yc (orig true c) = 1 - yc c := (yc_xp (yp c)).trans (yc_yp c)

/-- The two half blocks the body writes are the block of the result. -/
theorem outv_eq {c : Dev nD} {j : ℕ} {M : Memref sig .tc .vmem S1024x1024 .f32} (f : M.view.ty.Contents (Elt F))
    {o1 o2 : Fin 2 → ℕ} {inb1 : ∀ a : Fin 2, o1 a + S512x1024.size a ≤ S1024x1024.size a} {inb2 : ∀ a : Fin 2, o2 a + S512x1024.size a ≤ S1024x1024.size a}
    (h1 : o1 = ![512 * yc c, 0]) (h2 : o2 = ![512 - 512 * yc c, 0])
    {v1 v2 : Vec F S1x512x1024 .f32} (e1 : shapeCast S512x1024 v1 shapeCasts_S1x512x1024_S512x1024 = blk m (orig false c) j)
    (e2 : shapeCast S512x1024 v2 shapeCasts_S1x512x1024_S512x1024 = blk m (orig true c) j) :
    M.view.read (Elt F) (M.view.writes (Elt F) f
      [⟨Rect.unit (s := S1024x1024) o2 S512x1024.size inb2, k0_pay2 (fun x => xblk m c j ((Rect.unit (s := S1024x1024) o2 S512x1024.size inb2).idx x)) v2⟩,
       ⟨Rect.unit (s := S1024x1024) o1 S512x1024.size inb1, k0_pay1 (fun x => xblk m c j ((Rect.unit (s := S1024x1024) o1 S512x1024.size inb1).idx x)) v1⟩])
      = outv m c j := by
  funext y
  have hy0 : (y (0 : Fin 2)).val < 1024 := (y (0 : Fin 2)).isLt
  have hy1 : (y (1 : Fin 2)).val < 1024 := (y (1 : Fin 2)).isLt
  have hc := yc_lt c
  subst h1 h2
  by_cases h : (y (0 : Fin 2)).val / 512 = yc c
  · let x : S512x1024.Idx := fun a => ⟨(![(y (0 : Fin 2)).val - 512 * yc c, (y (1 : Fin 2)).val] : Fin 2 → ℕ) a, by
      fin_cases a
      · show (y (0 : Fin 2)).val - 512 * yc c < 512; omega
      · exact hy1⟩
    have hx0 : (y (0 : Fin 2)).val = 512 * yc c + (x (0 : Fin 2)).val := by show _ = 512 * yc c + ((y (0 : Fin 2)).val - 512 * yc c); omega
    have hx1 : (y (1 : Fin 2)).val = (x (1 : Fin 2)).val := rfl
    refine (View.read_writes_cons_rows_of_not_mem (d := S1024x1024.size) _ _ inb2 _ _ y rfl rfl ?_).trans
      ((View.read_writes_cons_rows_of_mem (d := S1024x1024.size) _ _ inb1 _ _ y x rfl hx0 hx1).trans ?_)
    · show (y (0 : Fin 2)).val < 512 - 512 * yc c ∨ 512 - 512 * yc c + 512 ≤ (y (0 : Fin 2)).val; omega
    · show FloatOps.addf _ _ = FloatOps.addf _ _
      rw [shapeCast_self, e1, blk_apply m (orig false c) j x y (by rw [yc_orig_x]; exact hx0) hx1]
      unfold who
      rw [decide_eq_false (not_not.mpr h)]
      unfold xblk
      congr 3
      refine funext fun a => Fin.ext ?_
      rw [Rect.idx_unit_val]
      fin_cases a
      · exact hx0.symm
      · exact Nat.zero_add _
  · let x : S512x1024.Idx := fun a => ⟨(![(y (0 : Fin 2)).val - (512 - 512 * yc c), (y (1 : Fin 2)).val] : Fin 2 → ℕ) a, by
      fin_cases a
      · show (y (0 : Fin 2)).val - (512 - 512 * yc c) < 512; omega
      · exact hy1⟩
    have hx0 : (y (0 : Fin 2)).val = (512 - 512 * yc c) + (x (0 : Fin 2)).val := by show _ = (512 - 512 * yc c) + ((y (0 : Fin 2)).val - (512 - 512 * yc c)); omega
    have hx1 : (y (1 : Fin 2)).val = (x (1 : Fin 2)).val := rfl
    refine (View.read_writes_cons_rows_of_mem (d := S1024x1024.size) _ _ inb2 _ _ y x rfl hx0 hx1).trans ?_
    show FloatOps.addf _ _ = FloatOps.addf _ _
    rw [shapeCast_self, e2, blk_apply m (orig true c) j x y (by rw [yc_orig_y]; omega) hx1]
    unfold who
    rw [decide_eq_true h]
    unfold xblk
    congr 3
    refine funext fun a => Fin.ext ?_
    rw [Rect.idx_unit_val]
    fin_cases a
    · exact hx0.symm
    · exact Nat.zero_add _

/-! ## Loads -/

/-- A load of a landing slot reads the block in it. -/
theorem wp_load_slot {c : Dev nD} {b : Bool} {k : ℕ} {q : PosShare TreeShare} {X : S512x1024.Idx → Elt F .f32}
    {M : Memref sig .tc .vmem S4x512x1024 .f32} (hM : M = scrM b) {off : Fin 3 → ℕ} (ho : off = ![k % 4, 0, 0])
    {inb : ∀ a : Fin 3, off a + S1x512x1024.size a ≤ S4x512x1024.size a} {hl}
    {p : Vec F S1x512x1024 .f32 → Prog (TpuEff nD τ sig (Elt F) Λ₀ .tc) α} {Q : α → sProp 𝕄} :
    owns (c : Thread nD τ) (slotM b k) q X
      ⊢ iprop((∀ v, ⌜shapeCast S512x1024 v shapeCasts_S1x512x1024_S512x1024 = X⌝ -∗ owns (c : Thread nD τ) (slotM b k) q X
          -∗ wp frame (wpE (defs₀ (F := F)) Variants.none (c : Thread nD τ) none) Set.univ (p v) Q)
        -∗ wp frame (wpE (defs₀ (F := F)) Variants.none (c : Thread nD τ) none) Set.univ
          (.op (.load M (Rect.unit (s := S4x512x1024) off S1x512x1024.size inb).toLoadRect hl) p) Q) := by
  subst hM ho
  unfold owns
  iintro ⟨%f, %hf, H⟩ Hk
  iapply (wp_load_rect (r := Rect.unit (s := S4x512x1024) ![k % 4, 0, 0] S1x512x1024.size inb) (m := scrM b) Variants.none (c : Thread nD τ) none Set.univ (S := (slotM b k).view.set) (q := q) (f := f) (subset_of_eq (View.set_reshape _ _).symm)) $$ [H]
  · iexact H
  iintro H
  iapply Hk $$ [] [H]
  · ipureintro; exact hf
  iexists f
  isplitr; · ipureintro; exact hf
  iexact H

/-- A load of rows of a window. -/
theorem wp_load_rows {c : Dev nD} {M : Memref sig .tc .vmem S1024x1024 .f32} {X : S1024x1024.Idx → Elt F .f32} {r : Rect S1024x1024} {hl}
    {p : (r.shape.Idx → Elt F .f32) → Prog (TpuEff nD τ sig (Elt F) Λ₀ .tc) α} {Q : α → sProp 𝕄} :
    owns (c : Thread nD τ) M fullShare X
      ⊢ iprop((owns (c : Thread nD τ) M fullShare X
          -∗ wp frame (wpE (defs₀ (F := F)) Variants.none (c : Thread nD τ) none) Set.univ (p (fun x => X (r.idx x))) Q)
        -∗ wp frame (wpE (defs₀ (F := F)) Variants.none (c : Thread nD τ) none) Set.univ (.op (.load M r.toLoadRect hl) p) Q) := by
  unfold owns
  iintro ⟨%f, %hf, H⟩ Hk
  subst hf
  iapply (wp_load_rect (r := r) (m := M) Variants.none (c : Thread nD τ) none Set.univ (S := M.view.set) (q := fullShare) (f := f) (View.set_slice_subset _ _)) $$ [H]
  · iexact H
  iintro H
  iapply Hk
  iexists f
  isplitr; · ipureintro; rfl
  iexact H

end Cert.KernelIdealProof

end
-- ==== Proof.Ideal.Body.lean ====
/- The kernel's body at one grid point: from the state before the point to the state after it. -/
module

public import proofs.«01_k».proof.Proof.Ideal.Block

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable {α : Type}

local notation "𝕄" => MT nD τ sig ℕ (Elt F) ℕ UU ℕ

variable (m : (ℓ : Loc nD τ sig) → Buf (Elt F) ℓ) (κ : GSem nD τ sig → ℕ) (ι : Key → ℕ)

/-! ## The kernel's expressions for slots, blocks and semaphores -/

theorem slotM_of {b : Bool} {k : ℕ} {M : Memref sig .tc .vmem S4x512x1024 .f32} (hM : M = scrM b) {off : Fin 3 → ℕ} (h : off = ![k % 4, 0, 0])
    (inb : ∀ a : Fin 3, off a + S1x512x1024.size a ≤ S4x512x1024.size a) :
    (M.slice (Rect.unit (s := S4x512x1024) off S1x512x1024.size inb) (fun _ => rfl)).squeeze S512x1024 squeezes_S1x512x1024_S512x1024 = slotM b k := by
  subst hM h; rfl
theorem semAt_of {A : DmaSems sig S4} {k : ℕ} {off : Fin 1 → ℕ} (h : off = ![k % 4]) (inb : ∀ a : Fin 1, off a + S1.size a ≤ S4.size a) :
    ((A.slice (Rect.unit (s := S4) off S1.size inb)).squeeze S_ squeezes_S1_S_).sem = semAt A k := by
  subst h; rfl
theorem srcM_of {c : Dev nD} {k : ℕ} {off : Fin 2 → ℕ} (h : off = ![1024 * (k % 32) + 512 * yc c, 0])
    (inb : ∀ a : Fin 2, off a + S512x1024.size a ≤ S32768x1024.size a) :
    (Memref.whole main_arg0).slice (Rect.unit (s := S32768x1024) off S512x1024.size inb) (fun _ => rfl) = srcM c k := by
  subst h; rfl

/-! ## The three parts of a point -/

/-- Meeting the partners, at the first point. -/
theorem step_meet {c : Dev nD} {n₁ n₂ : Dev nD} (h₁ : n₁ = peer false c) (h₂ : n₂ = peer true c) {z₁ z₂ z₃ : ℤ} (hz₁ : z₁ = ((1 : ℕ) : ℤ))
    (hz₂ : z₂ = ((1 : ℕ) : ℤ)) (hz₃ : z₃ = ((2 : ℕ) : ℤ)) {p : PUnit → Prog (TpuEff nD τ sig (Elt F) Λ₀ .tc) α} {Q : α → sProp 𝕄} :
    iprop(Ctx m κ ι ∗ Start m c ∗ Owes c (O₀ c))
      ⊢ iprop(((St m c 0 0 0 ∗ Owes c (Ow c 0 0 0 0)) -∗ wp frame (wpE (defs₀ (F := F)) Variants.none (c : Thread nD τ) none) Set.univ (p ⟨⟩) Q)
        -∗ wp frame (wpE (defs₀ (F := F)) Variants.none (c : Thread nD τ) none) Set.univ
          (.op (.semSignal (Dev.tc n₁) barS z₁) fun _ => .op (.semSignal (Dev.tc n₂) barS z₂) fun _ => .op (.semWait barS z₃) p) Q) := by
  unfold Start Mine
  iintro ⟨#Hc, ⟨HC, ⟨#Hf1, #Hf2⟩, Hat, Hcr, ⟨Hd1, Hr1⟩, ⟨Hd2, Hr2⟩⟩, HO⟩ Hk
  ihave Hf1' := free_le (F := F) false c (show 4 ≤ min (0 + 4) 32 by decide) $$ Hf1
  ihave Hf2' := free_le (F := F) true c (show 4 ≤ min (0 + 4) 32 by decide) $$ Hf2
  iapply (wp_hello m κ ι (b := false) h₁ hz₁ (Ow c 0 0 0 0 + tallyAt (barCell (peer true c)) 0 1)) $$ [HO Hd1 Hf1' Hr1]
  · isplitl []; · iexact Hc
    isplitl [HO]; · iexact HO
    isplitl [Hd1]; · iexact Hd1
    isplitl [Hf1']; · iexact Hf1'
    iexact Hr1
  iintro HO
  iapply (wp_hello m κ ι (b := true) h₂ hz₂ (Ow c 0 0 0 0)) $$ [HO Hd2 Hf2' Hr2]
  · isplitl []; · iexact Hc
    isplitl [HO]; · iexact HO
    isplitl [Hd2]; · iexact Hd2
    isplitl [Hf2']; · iexact Hf2'
    iexact Hr2
  iintro HO
  iapply (wp_meet m κ ι hz₃ (Ow c 0 0 0 0)) $$ [HO Hcr Hat]
  · isplitl []; · iexact Hc
    isplitl [Hcr]; · iexact Hcr
    isplitl [HO]; · iexact HO
    isplitl []
    · iapply (ctx_mayWait m κ ι c (.reg barS) 0 0 0 0 0 (by decide) (by rw [lv_bar]; omega) (by rw [lv_bar]; omega) (by rw [lv_bar]; omega) (by rw [lv_bar]; omega)) $$ Hc
    iexact Hat
  iintro ⟨HO, Hat, Hm1, Hm2⟩
  iapply Hk
  isplitl [HC Hat Hm1 Hm2]
  · unfold St Mine Met
    isplitl [HC]; · iexact HC
    isplitl []; · isplitl [] <;> iassumption
    isplitl [Hm1 Hm2]; · isplitl [Hm1] <;> iassumption
    iexact Hat
  iexact HO

/-- Waiting for a report before block `a` is sent along `x`. -/
theorem step_credit {c : Dev nD} {a p : ℕ} (ha : a < 32) (ha' : 4 ≤ a) (hp : a ≤ p + 2) {s : Sem sig} (hs : s = credS false) {z : ℤ} (hz : z = ((1 : ℕ) : ℤ))
    {k : PUnit → Prog (TpuEff nD τ sig (Elt F) Λ₀ .tc) α} {Q : α → sProp 𝕄} :
    iprop(Ctx m κ ι ∗ St m c a p (a - 4) ∗ Owes c (Ow c a p p p))
      ⊢ iprop(((St m c a p (a + 1 - 4) ∗ ready false (peer false c) a ∗ Owes c (Ow c a p p p))
          -∗ wp frame (wpE (defs₀ (F := F)) Variants.none (c : Thread nD τ) none) Set.univ (k ⟨⟩) Q)
        -∗ wp frame (wpE (defs₀ (F := F)) Variants.none (c : Thread nD τ) none) Set.univ (.op (.semWait s z) k) Q) := by
  unfold St Core
  iintro ⟨#Hc, ⟨⟨H1, H2, H3, H4, H5, H6, H7, H8, HC, H9⟩, HB⟩, HO⟩ Hk
  iapply (wp_reported m κ ι (b := false) (w := a - 4) (by omega) hs hz (Ow c a p p p)) $$ [HC HO]
  · isplitl []; · iexact Hc
    isplitl [HC]; · iexact HC
    isplitl [HO]; · iexact HO
    iapply (ctx_mayWait m κ ι c (.reg (credS false)) (a - 4) a p p p (by omega) (by rw [lv_cred]; omega) (by rw [lv_cred]; omega) (by rw [lv_cred]; omega) (by rw [lv_cred]; omega)) $$ Hc
  rw [show a - 4 + 4 = a by omega, show a - 4 + 1 = a + 1 - 4 by omega]
  iintro ⟨HO, HC, Hr⟩
  iapply Hk
  isplitr [Hr HO]
  · isplitr [HB]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HC]; · iexact HC
      iexact H9
    iexact HB
  isplitl [Hr] <;> iassumption

omit [FloatOps F] in
/-- The first four blocks need no report. -/
theorem met_ready {c : Dev nD} {a p u : ℕ} (ha : a < 4) : St m c a p u ⊢ ready false (peer false c) a := by
  unfold St Met
  iintro ⟨-, -, ⟨H, -⟩, -⟩
  iapply (free_ready ha) $$ H

/-- Sending block `a` along `x`. -/
theorem step_send {c : Dev nD} {a p u : ℕ} (ha : a < 32) (hp : p ≤ a) (hp' : a < p + 4) {src : Memref sig .tc .hbm S512x1024 .f32} (hsrc' : src = srcM c a)
    {dst : Memref sig .tc .vmem S512x1024 .f32} (hdst' : dst = slotM false a) {sS sR : DmaSem sig} (hS : sS = sendS false a) (hR : sR = recvS false a)
    {n : Dev nD} (hn : n = peer false c) {hsc hsrc hdst hsem}
    {k : PUnit → Prog (TpuEff nD τ sig (Elt F) Λ₀ .tc) α} {Q : α → sProp 𝕄} :
    iprop(Ctx m κ ι ∗ St m c a p u ∗ ready false (peer false c) a ∗ Owes c (Ow c a p p p))
      ⊢ iprop(((St m c (a + 1) p u ∗ Owes c (Ow c (a + 1) p p p))
          -∗ wp frame (wpE (defs₀ (F := F)) Variants.none (c : Thread nD τ) none) Set.univ (k ⟨⟩) Q)
        -∗ wp frame (wpE (defs₀ (F := F)) Variants.none (c : Thread nD τ) none) Set.univ
          (.op (.enqueueDma src (.remote (Dev.tc n) dst (.dma sS) hsc) (.dma sR) hsrc hdst hsem) k) Q) := by
  subst hsrc'
  unfold St Core
  rw [Ow_peel_x c a p p p ha]
  iintro ⟨#Hc, ⟨⟨H1, H2, H3, H4, H5, H6, H7, H8, H9, H10, H11, H12⟩, HB⟩, Hr, HO⟩ Hk
  ihave #Hrch := Seats_reached hp hp' $$ H1
  ihave ⟨HR, H3⟩ := Rights_peel ha $$ H3
  unfold Right
  icases HR with ⟨Hd1, Hd2, Hw⟩
  ihave ⟨H12, %q, Hsrc⟩ := Arg_lend m c a $$ H12
  iapply (wp_block m κ ι (b := false) ha hdst' hS hR hn (q := q) (fs := xv m c) (by rw [orig_peer_x]; rfl)
    (by rw [payload_send_x]; iintro -; iempintro) (Ow c (a + 1) p p p)) $$ [Hsrc Hr HO Hd1 Hd2 Hw]
  · isplitl []; · iexact Hc
    isplitl [Hsrc]; · iexact Hsrc
    isplitl [Hr]; · iexact Hr
    isplitl [HO]; · iexact HO
    isplitl [Hd1]; · iexact Hd1
    isplitl []; · iexact Hrch
    isplitl [Hd2]; · iexact Hd2
    iexact Hw
  iintro ⟨Hcr, HO⟩
  iapply Hk
  isplitr [HO]
  · isplitr [HB]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11 Hcr]
      · iapply (Flying_push hp); isplitl [Hcr] <;> iassumption
      iexact H12
    iexact HB
  iexact HO

/-! ### A slot's use -/

omit [FloatOps F] in
theorem Seat_open (c : Dev nD) (b : Bool) {p : ℕ} (h : p < 32) : Seat (F := F) c b p (p / 4)
    ⊢ iprop(atPos ER (recvCell b p c) (p / 4) ∅ 0 ∗ atPos ER (sendCell b p c) (p / 4) ∅ 0 ∗ reached ER (sendCell b p c) (p / 4)
      ∗ readerAt ES (c, b, p % 4) (p / 4 + 1)) := by
  unfold Seat; rw [if_pos (by omega)]

omit [FloatOps F] in
/-- A slot that is owned is a slot in hand. -/
theorem owns_slot (c : Dev nD) (b : Bool) (k : ℕ) (X : S512x1024.Idx → Elt F .f32) :
    owns (c : Thread nD τ) (slotM b k) fullShare X ⊢ (slot ((slotM b k).view.loc (c : Thread nD τ)) (slotM b k).view.set : sProp 𝕄) := by
  unfold owns slot; iintro ⟨%f, -, H⟩; iexists f; iexact H

omit [FloatOps F] in
/-- A window that is owned holds something. -/
theorem owns_some (c : Thread nD τ) {s : Shape} (M : Memref sig c.2.kind .vmem s .f32) (X : s.Idx → Elt F .f32) :
    owns c M fullShare X ⊢ (iprop(∃ g, M.view.loc c ↦[M.view.set]{fullShare} g) : sProp 𝕄) := by
  unfold owns; iintro ⟨%f, -, H⟩; iexists f; iexact H

/-- After block `p` has been used its slot is given back for block `p + 4`, or kept if there is none. -/
theorem seat_return (c : Dev nD) (b : Bool) {p : ℕ} (hp : p < 32) (X : S512x1024.Idx → Elt F .f32) :
    iprop(Ctx m κ ι ∗ atPos ER (recvCell b p c) (p / 4 + 1) ∅ 0 ∗ atPos ER (sendCell b p c) (p / 4 + 1) ∅ 0 ∗ reached ER (sendCell b p c) (p / 4 + 1)
        ∗ reached ER (recvCell b p c) (p / 4 + 1) ∗ readerAt ES (c, b, p % 4) (p / 4 + 1) ∗ owns (c : Thread nD τ) (slotM b p) fullShare X
        ∗ free b c (min (p + 4) 32))
      ⊢ |={Set.univ}=> (Seat c b p (p / 4 + 1) ∗ free b c (min (p + 1 + 4) 32)) := by
  iintro ⟨#Hc, H1, H2, H3, #Hr, H4, HX, #Hf⟩
  by_cases h : p < 28
  · imod (ctx_release m κ ι c b p (p / 4 + 1)) $$ [H4 HX] with ⟨H4, #Hrel⟩
    · isplitl []; · iexact Hc
      isplitl [H4]; · iexact H4
      iapply (owns_slot c b p X) $$ HX
    imodintro
    isplitl [H1 H2 H3 H4]
    · unfold Seat
      rw [if_pos (by omega)]
      isplitl [H1]; · iexact H1
      isplitl [H2]; · iexact H2
      isplitl [H3]; · iexact H3
      iexact H4
    · rw [show min (p + 1 + 4) 32 = (p + 4) + 1 by omega, show min (p + 4) 32 = p + 4 by omega]
      iapply (free_push (F := F) b c (p + 4))
      isplitl []; · iexact Hf
      ihave #H0 := free_ready (F := F) (b := b) (p := c) (k := 0) (n := p + 4) (by omega) $$ Hf
      unfold ready recvCell
      rw [recvS_mod b (p + 4), show (p + 4) % 4 = p % 4 by omega, ← recvS_mod, show (p + 4) / 4 = p / 4 + 1 by omega]
      icases H0 with ⟨-, -, #H0⟩
      isplitl []; · iexact Hrel
      isplitl []; · iexact Hr
      iexact H0
  · imodintro
    rw [show min (p + 1 + 4) 32 = min (p + 4) 32 by omega]
    isplitl; swap; · iexact Hf
    unfold Seat
    rw [if_neg (by omega), Sl_eq]
    isplitl [H1]; · iexact H1
    isplitl [H2]; · iexact H2
    isplitl [H3]; · iexact H3
    iapply (owns_slot c b p X) $$ HX

omit [FloatOps F] in
theorem Ow_late (c : Dev nD) (a y : ℕ) {p : ℕ} (h : 28 ≤ p) : Ow c a y p p = Ow c a y (p + 1) (p + 1) := by
  unfold Ow; rw [Finset.Ico_eq_empty_of_le h, Finset.Ico_eq_empty_of_le (show 28 ≤ p + 1 by omega)]
omit [FloatOps F] in
theorem Reports_late (b : Bool) (c : Dev nD) {p : ℕ} (h : 28 ≤ p) : Reports (F := F) b c p = Reports b c (p + 1) := by
  unfold Reports; rw [Finset.Ico_eq_empty_of_le h, Finset.Ico_eq_empty_of_le (show 28 ≤ p + 1 by omega)]

/-! ## The state before a point, and the whole body -/

/-- What a device owes before grid point `n`. -/
def owedAt (c : Dev nD) (n : ℕ) : CellTallies nD τ sig ℕ := if n = 0 then O₀ c else Ow c (min n 32) (n - 2) (n - 2) (n - 2)
/-- What it holds before grid point `n`. -/
def Before (c : Dev nD) (n : ℕ) : sProp 𝕄 := if n = 0 then Start m c else St m c (min n 32) (n - 2) (min n 32 - 4)

/-- A conditional step: taken, it leads from `R` to `Mid` and on; not taken, `R` is `Mid`. -/
theorem wp_cond {c : Dev nD} {P : Prop} [Decidable P]
    {A : P → Prog (TpuEff nD τ sig (Elt F) Λ₀ .tc) α} {T : Prog (TpuEff nD τ sig (Elt F) Λ₀ .tc) α} {R : sProp 𝕄} (Mid : sProp 𝕄)
    {Φ : α → sProp 𝕄} (hA : ∀ h, R ⊢ iprop((Mid -∗ wp frame (wpE (defs₀ (F := F)) Variants.none (c : Thread nD τ) none) Set.univ T Φ) -∗ wp frame (wpE (defs₀ (F := F)) Variants.none (c : Thread nD τ) none) Set.univ (A h) Φ)) (hB : ¬P → R ⊢ Mid)
    (hT : Mid ⊢ wp frame (wpE (defs₀ (F := F)) Variants.none (c : Thread nD τ) none) Set.univ T Φ) : R ⊢ wp frame (wpE (defs₀ (F := F)) Variants.none (c : Thread nD τ) none) Set.univ (if h : P then A h else T) Φ := by
  by_cases h : P
  · rw [dif_pos h]
    exact (hA h).trans (by iintro H; iapply H; iintro H; iapply hT $$ H)
  · rw [dif_neg h]
    exact (hB h).trans hT

/-- The same, with the rest of the program's claim still to be used. -/
theorem wp_cond' {c : Dev nD} {P : Prop} [Decidable P]
    {A : P → Prog (TpuEff nD τ sig (Elt F) Λ₀ .tc) α} {T : Prog (TpuEff nD τ sig (Elt F) Λ₀ .tc) α} {R K : sProp 𝕄} (Mid : sProp 𝕄)
    {Φ : α → sProp 𝕄} (hA : ∀ h, R ⊢ iprop((Mid -∗ wp frame (wpE (defs₀ (F := F)) Variants.none (c : Thread nD τ) none) Set.univ T Φ)
      -∗ wp frame (wpE (defs₀ (F := F)) Variants.none (c : Thread nD τ) none) Set.univ (A h) Φ)) (hB : ¬P → R ⊢ Mid)
    (hT : Mid ⊢ iprop(K -∗ wp frame (wpE (defs₀ (F := F)) Variants.none (c : Thread nD τ) none) Set.univ T Φ)) :
    R ⊢ iprop(K -∗ wp frame (wpE (defs₀ (F := F)) Variants.none (c : Thread nD τ) none) Set.univ (if h : P then A h else T) Φ) := by
  by_cases h : P
  · rw [dif_pos h]
    iintro H HK
    iapply (hA h) $$ H
    iintro H
    iapply hT $$ H HK
  · rw [dif_neg h]
    exact (hB h).trans hT

/-! ### The three parts of a block's use -/

/-- The block has landed. -/
theorem part1_ok {c : Dev nD} {i : grid0.Coords} {arg1 harg1 arg2 harg2 arg3 harg3 harg4 arg5 harg5 arg6 arg8 arg9 arg10 arg11 v5 v8 v9} (h4 : k0_cond4 i = 1#1)
    {p a : ℕ} (hp : (i 0).val = p + 2) (hp' : p < 32) (ha : p < a) {Φ : _ → sProp 𝕄} :
    iprop(Ctx m κ ι ∗ cred (tallyAt (recvCell false p c) p N) ∗ Owes c (Ow c a p p p) ∗ atPos ER (recvCell false p c) (p / 4) ∅ 0)
      ⊢ iprop((∀ v20 v30, (Owes c (Ow c a p p p) ∗ atPos ER (recvCell false p c) (p / 4 + 1) ∅ 0 ∗ reached ER (recvCell false p c) (p / 4 + 1)
            ∗ owns (c : Thread nD τ) (slotM false p) fullShare (blk m (orig false c) p))
          -∗ Φ ⟨v20, v30, Scalar.cmpi .sge (Scalar.subi (BitVec.ofNat 32 (i 0).val) 2#32) 4#32⟩)
        -∗ wp frame (wpE (defs₀ (F := F)) Variants.none (c : Thread nD τ) none) Set.univ
          (k0_part1 i arg1 harg1 arg2 harg2 arg3 harg3 (Memref.whole cc0_scratch0) harg4 arg5 harg5 arg6 cc0_scratch3 arg8 arg9 arg10 arg11
            (BitVec.ofNat 32 (i 0).val) c v5 v8 v9 h4) Φ) := by
  rw [k0_part1_eq_skeleton]
  unfold k0_part1_skel
  simp only [Prog.lift, Prog.bind_op, Prog.bind_ret, Prog.pure_eq_ret]
  iintro ⟨#Hc, Hcr, HO, Hat⟩ Hk
  iapply (wp_arrived m κ ι (c := c) (sm := recvS false p) (r := p / 4) (mem_recv false p c) (duties_recv m c false p _ (by omega)) (expect_recv m c false p _ (by omega))
    (semAt_of (by rw [off4_eq i h4, hp, Nat.add_sub_cancel]) _) p (Ow c a p p p)) $$ [Hcr HO Hat]
  · isplitl []; · iexact Hc
    isplitl [Hcr]; · iexact Hcr
    isplitl [HO]; · iexact HO
    isplitl []
    · iapply (ctx_mayWait m κ ι c (.dma (recvS false p)) p a p p p hp' (by rw [lv_recv_x]; omega) (by rw [lv_recv_x]; omega) (by rw [lv_recv_x]; omega) (by rw [lv_recv_x]; omega)) $$ Hc
    iexact Hat
  iintro ⟨HO, Hat, Hr, Hpay⟩
  rw [wp_ret]
  imodintro
  iapply Hk
  isplitl [HO]; · iexact HO
  isplitl [Hat]; · iexact Hat
  isplitl [Hr]; · iexact Hr
  iapply (Entails.of_eq (payload_recv m c false p 0)) $$ Hpay

/-- The block is passed on along `y`: half of its slot stays here. -/
theorem wp_pass {c : Dev nD} {a p : ℕ} (hp : p < 32) {src dst : Memref sig .tc .vmem S512x1024 .f32} (hsrc' : src = slotM false p)
    (hdst' : dst = slotM true p) {sS sR : DmaSem sig} (hS : sS = sendS true p) (hR : sR = recvS true p)
    {n : Dev nD} (hn : n = peer true c) {hsc hsrc hdst hsem}
    {k : PUnit → Prog (TpuEff nD τ sig (Elt F) Λ₀ .tc) α} {Q : α → sProp 𝕄} :
    iprop(Ctx m κ ι ∗ owns (c : Thread nD τ) (slotM false p) fullShare (blk m (orig false c) p) ∗ ready true (peer true c) p
        ∗ Owes c (Ow c a p p p) ∗ Right true c p ∗ reached ER (sendCell true p c) (p / 4))
      ⊢ iprop(((cred (tallyAt (sendCell true p c) 0 N) ∗ Owes c (Ow c a (p + 1) p p)
            ∗ owns (c : Thread nD τ) (slotM false p) fullShare.left (blk m (orig false c) p))
          -∗ wp frame (wpE (defs₀ (F := F)) Variants.none (c : Thread nD τ) none) Set.univ (k ⟨⟩) Q)
        -∗ wp frame (wpE (defs₀ (F := F)) Variants.none (c : Thread nD τ) none) Set.univ
          (.op (.enqueueDma src (.remote (Dev.tc n) dst (.dma sS) hsc) (.dma sR) hsrc hdst hsem) k) Q) := by
  subst hsrc'
  rw [Ow_peel_y c a p p p hp]
  unfold Right
  iintro ⟨#Hc, HX, Hr, HO, ⟨Hd1, Hd2, Hw⟩, Hrch⟩ Hk
  ihave ⟨HL, HR⟩ := (owns_halves (c : Thread nD τ) (slotM false p) fullShare (blk m (orig false c) p)).1 $$ HX
  unfold owns
  icases HR with ⟨%f, %hf, HR⟩
  iapply (wp_block m κ ι (b := true) hp hdst' hS hR hn (q := fullShare.right) (fs := f) (by rw [orig_peer_y]; exact hf)
    (by rw [payload_send_y]; unfold owns; iintro H; iexists f; isplitr; · ipureintro; exact hf
        iexact H) (Ow c a (p + 1) p p)) $$ [HR Hr HO Hd1 Hd2 Hw Hrch]
  · isplitl []; · iexact Hc
    isplitl [HR]; · iexact HR
    isplitl [Hr]; · iexact Hr
    isplitl [HO]; · iexact HO
    isplitl [Hd1]; · iexact Hd1
    isplitl [Hrch]; · iexact Hrch
    isplitl [Hd2]; · iexact Hd2
    iexact Hw
  iintro ⟨Hcr, HO⟩
  iapply Hk
  isplitl [Hcr]; · iexact Hcr
  isplitl [HO]; · iexact HO
  iexact HL

/-- The block is passed on, and its own half of the sum made. -/
theorem part2_ok {c : Dev nD} {i : grid0.Coords} {arg1 harg1 arg2 harg2 arg3 harg3 harg4 harg5 arg6 arg7 arg10 v2 v5 v8 v10 v20 v30} (h4 : k0_cond4 i = 1#1)
    {p a : ℕ} (hp : (i 0).val = p + 2) (hp' : p < 32) (ha : p < a) (X : S1024x1024.Idx → Elt F .f32) (g : Buf (Elt F) (arg3.view.loc (c : Thread nD τ)))
    {Φ : FVec F S512x1024 .f32 → sProp 𝕄} :
    iprop(Ctx m κ ι ∗ CredSt c true (p - 4) ∗ Owes c (Ow c a p p p) ∗ Met c ∗ Right true c p ∗ reached ER (sendCell true p c) (p / 4)
        ∗ owns (c : Thread nD τ) (slotM false p) fullShare (blk m (orig false c) p) ∗ owns (c : Thread nD τ) arg2 fullShare X
        ∗ (arg3.view.loc (c : Thread nD τ) ↦[arg3.view.set]{fullShare} g))
      ⊢ iprop((∀ v87, ⌜shapeCast S512x1024 v87 shapeCasts_S1x512x1024_S512x1024 = blk m (orig false c) p⌝
            -∗ (CredSt c true (p + 1 - 4) ∗ Owes c (Ow c a (p + 1) p p) ∗ cred (tallyAt (sendCell true p c) 0 N)
              ∗ owns (c : Thread nD τ) (slotM false p) fullShare.left (blk m (orig false c) p) ∗ owns (c : Thread nD τ) arg2 fullShare X
              ∗ (arg3.view.loc (c : Thread nD τ) ↦[arg3.view.set]{fullShare} g))
          -∗ Φ (k0_pay1 (fun x => X ((Rect.unit (s := S1024x1024) (k0_off7 c) S512x1024.size (k0_off7_inb i c h4)).idx x)) v87))
        -∗ wp frame (wpE (defs₀ (F := F)) Variants.none (c : Thread nD τ) none) Set.univ
          (k0_part2 i arg1 harg1 arg2 harg2 arg3 harg3 (Memref.whole cc0_scratch0) harg4 (Memref.whole cc0_scratch1) harg5 arg6 arg7 cc0_scratch4 cc0_scratch5 arg10
            cc0_scratch7 c v2 v5 v8 v10 h4 v20 v30 (Scalar.cmpi .sge (Scalar.subi (BitVec.ofNat 32 (i 0).val) 2#32) 4#32)) Φ) := by
  rw [k0_part2_eq_skeleton]
  unfold k0_part2_skel
  simp only [semWaitWord, Prog.lift, Prog.bind_op, Prog.bind_ret, Prog.pure_eq_ret]
  refine wp_cond' iprop(Ctx m κ ι ∗ (CredSt c true (p + 1 - 4) ∗ ready true (peer true c) p) ∗ Owes c (Ow c a p p p) ∗ Right true c p
    ∗ reached ER (sendCell true p c) (p / 4) ∗ owns (c : Thread nD τ) (slotM false p) fullShare (blk m (orig false c) p) ∗ owns (c : Thread nD τ) arg2 fullShare X
    ∗ (arg3.view.loc (c : Thread nD τ) ↦[arg3.view.set]{fullShare} g)) (fun h5 => ?_) (fun h5 => ?_) ?_
  · have h6 := (wait_y_iff i h4).mp h5
    iintro ⟨#Hc, HC, HO, -, HB⟩ Hk
    iapply (wp_reported m κ ι (b := true) (w := p - 4) (by omega) rfl rfl (Ow c a p p p)) $$ [HC HO]
    · isplitl []; · iexact Hc
      isplitl [HC]; · iexact HC
      isplitl [HO]; · iexact HO
      iapply (ctx_mayWait m κ ι c (.reg (credS true)) (p - 4) a p p p (by omega) (by rw [lv_cred]; omega) (by rw [lv_cred]; omega) (by rw [lv_cred]; omega) (by rw [lv_cred]; omega)) $$ Hc
    rw [show p - 4 + 4 = p by omega, show p - 4 + 1 = p + 1 - 4 by omega]
    iintro ⟨HO, HC, Hr⟩
    iapply Hk
    isplitl []; · iexact Hc
    isplitl [HC Hr]; · isplitl [HC] <;> iassumption
    isplitl [HO]; · iexact HO
    iexact HB
  · have h6 := mt (wait_y_iff i h4).mpr h5
    rw [show p + 1 - 4 = p - 4 by omega]
    unfold Met
    iintro ⟨#Hc, HC, HO, ⟨-, HM⟩, HB⟩
    isplitl []; · iexact Hc
    isplitl [HC HM]
    · isplitl [HC]; · iexact HC
      iapply (free_ready (by omega)) $$ HM
    isplitl [HO]; · iexact HO
    iexact HB
  iintro ⟨#Hc, ⟨HC, Hr⟩, HO, HR, Hs, HX, H2, H3⟩ Hk
  iapply (wp_pass m κ ι (c := c) (a := a) hp' (slotM_of rfl (by rw [off5_eq i h4, hp, Nat.add_sub_cancel]) _) (slotM_of rfl (by rw [off5_eq i h4, hp, Nat.add_sub_cancel]) _)
    (semAt_of (by rw [off4_eq i h4, hp, Nat.add_sub_cancel]) _) (semAt_of (by rw [off4_eq i h4, hp, Nat.add_sub_cancel]) _) (dev4_eq c _)) $$ [HX Hr HO HR Hs]
  · isplitl []; · iexact Hc
    isplitl [HX]; · iexact HX
    isplitl [Hr]; · iexact Hr
    isplitl [HO]; · iexact HO
    isplitl [HR]; · iexact HR
    iexact Hs
  iintro ⟨Hcr, HO, HX⟩
  iapply wp_load_rows $$ H2
  iintro H2
  iapply (wp_load_slot (b := false) (k := p) rfl (by rw [off8_eq i h4, hp, Nat.add_sub_cancel])) $$ HX
  iintro %v %hv HX
  iapply (wp_load_rect Variants.none (c : Thread nD τ) none Set.univ (r := Rect.unit (s := S1024x1024) (k0_off7 c) S512x1024.size (k0_off7_inb i c h4)) (m := arg3) (S := arg3.view.set) (q := fullShare) (f := g) (View.set_slice_subset _ _)) $$ [H3]
  · iexact H3
  iintro H3
  rw [wp_ret]
  imodintro
  ihave H := Hk $$ %v [] [HC HO Hcr HX H2 H3]
  · ipureintro; exact hv
  · isplitl [HC]; · iexact HC
    isplitl [HO]; · iexact HO
    isplitl [Hcr]; · iexact Hcr
    isplitl [HX]; · iexact HX
    isplitl [H2]; · iexact H2
    iexact H3
  iapply (Entails.of_eq (by rfl)) $$ H

/-- The other half of the sum is made of the block that came along `y`. -/
theorem part3_ok {c : Dev nD} {i : grid0.Coords} {arg1 harg1 arg2 harg2 arg3 harg3 arg4 harg4 harg5 arg7 arg8 arg10 arg11 v2 v5 v8 v10 v30} (h4 : k0_cond4 i = 1#1)
    {p a : ℕ} (hp : (i 0).val = p + 2) (hp' : p < 32) (ha : a < 32 → p + 3 ≤ a) (g : Buf (Elt F) (arg3.view.loc (c : Thread nD τ)))
    {v87} (hv : shapeCast S512x1024 v87 shapeCasts_S1x512x1024_S512x1024 = blk m (orig false c) p)
    {Φ : PUnit → sProp 𝕄} :
    iprop(Ctx m κ ι ∗ cred (tallyAt (sendCell false p c) 0 N) ∗ atPos ER (sendCell false p c) (p / 4) ∅ 0
        ∗ cred (tallyAt (recvCell true p c) p N) ∗ atPos ER (recvCell true p c) (p / 4) ∅ 0 ∗ Owes c (Ow c a (p + 1) p p)
        ∗ owns (c : Thread nD τ) arg2 fullShare (xblk m c p) ∗ (arg3.view.loc (c : Thread nD τ) ↦[arg3.view.set]{fullShare} g))
      ⊢ iprop(((atPos ER (sendCell false p c) (p / 4 + 1) ∅ 0 ∗ reached ER (sendCell false p c) (p / 4 + 1)
            ∗ atPos ER (recvCell true p c) (p / 4 + 1) ∅ 0 ∗ reached ER (recvCell true p c) (p / 4 + 1)
            ∗ owns (c : Thread nD τ) (slotM true p) fullShare (blk m (orig true c) p) ∗ Owes c (Ow c a (p + 1) p p)
            ∗ owns (c : Thread nD τ) arg2 fullShare (xblk m c p) ∗ owns (c : Thread nD τ) arg3 fullShare (outv m c p)) -∗ Φ ⟨⟩)
        -∗ wp frame (wpE (defs₀ (F := F)) Variants.none (c : Thread nD τ) none) Set.univ
          (k0_part3 i arg1 harg1 arg2 harg2 arg3 harg3 arg4 harg4 (Memref.whole cc0_scratch1) harg5 cc0_scratch2 arg7 arg8 cc0_scratch5 arg10
            arg11 c v2 v5 v8 v10 h4 v30 (k0_pay1 (fun x => xblk m c p ((Rect.unit (s := S1024x1024) (k0_off7 c) S512x1024.size (k0_off7_inb i c h4)).idx x)) v87)) Φ) := by
  rw [k0_part3_eq_skeleton]
  unfold k0_part3_skel
  simp only [Prog.lift, Prog.bind_op, Prog.bind_ret, Prog.pure_eq_ret]
  iintro ⟨#Hc, Hcx, Hax, Hcy, Hay, HO, H2, H3⟩ Hk
  iapply (wp_store_writes₀ Variants.none (c : Thread nD τ) none Set.univ (m := arg3) (S := arg3.view.set) (f := g) (View.set_slice_subset _ _)) $$ [H3]
  · iexact H3
  iintro H3
  iapply (wp_arrived m κ ι (c := c) (sm := sendS false p) (r := p / 4) (mem_send false p c) (duties_send m c false p _ (by omega)) (expect_send m c false p _ (by omega))
    (semAt_of (by rw [off4_eq i h4, hp, Nat.add_sub_cancel]) _) 0 (Ow c a (p + 1) p p)) $$ [Hcx HO Hax]
  · isplitl []; · iexact Hc
    isplitl [Hcx]; · iexact Hcx
    isplitl [HO]; · iexact HO
    isplitl []
    · iapply (ctx_mayWait m κ ι c (.dma (sendS false p)) 0 a (p + 1) p p (by omega) (by rw [lv_send]; omega) (by rw [lv_send]; omega) (by rw [lv_send]; omega) (by rw [lv_send]; omega)) $$ Hc
    iexact Hax
  iintro ⟨HO, Hax, Hrx, -⟩
  iapply (wp_arrived m κ ι (c := c) (sm := recvS true p) (r := p / 4) (mem_recv true p c) (duties_recv m c true p _ (by omega)) (expect_recv m c true p _ (by omega))
    (semAt_of (by rw [off4_eq i h4, hp, Nat.add_sub_cancel]) _) p (Ow c a (p + 1) p p)) $$ [Hcy HO Hay]
  · isplitl []; · iexact Hc
    isplitl [Hcy]; · iexact Hcy
    isplitl [HO]; · iexact HO
    isplitl []
    · iapply (ctx_mayWait m κ ι c (.dma (recvS true p)) p a (p + 1) p p (by omega) (by rw [lv_recv_y]; omega) (by rw [lv_recv_y]; omega) (by rw [lv_recv_y]; omega) (by rw [lv_recv_y]; omega)) $$ Hc
    iexact Hay
  iintro ⟨HO, Hay, Hry, HY⟩
  ihave HY := Entails.of_eq (payload_recv m c true p 0) $$ HY
  iapply wp_load_rows $$ H2
  iintro H2
  iapply (wp_load_slot (b := true) (k := p) rfl (by rw [off8_eq i h4, hp, Nat.add_sub_cancel])) $$ HY
  iintro %v %hv' HY
  iapply (wp_load_rect Variants.none (c : Thread nD τ) none Set.univ (r := Rect.unit (s := S1024x1024) (k0_off9 c) S512x1024.size (k0_off9_inb i c h4)) (m := arg3) (S := arg3.view.set) (q := fullShare) (View.set_slice_subset _ _)) $$ [H3]
  · iexact H3
  iintro H3
  iapply (wp_store_writes Variants.none (c : Thread nD τ) none Set.univ (m := arg3) (S := arg3.view.set) (f := g) (View.set_slice_subset _ _)) $$ [H3]
  · iexact H3
  iintro H3
  rw [wp_ret]
  imodintro
  iapply Hk
  isplitl [Hax]; · iexact Hax
  isplitl [Hrx]; · iexact Hrx
  isplitl [Hay]; · iexact Hay
  isplitl [Hry]; · iexact Hry
  isplitl [HY]; · iexact HY
  isplitl [HO]; · iexact HO
  isplitl [H2]; · iexact H2
  unfold owns
  iexists _
  isplitr; swap; · iexact H3
  ipureintro
  exact outv_eq m g (k0_off7_eq c) (k0_off9_eq c) hv hv'

/-- Both partners are told that a slot is free again, unless no block is to come into it. -/
theorem step_report {c : Dev nD} {a y p : ℕ} {P : Prop} [Decidable P] (hP : P ↔ p < 28) {n1 n2 : P → Dev nD} (h1 : ∀ h, n1 h = peer false c) (h2 : ∀ h, n2 h = peer true c)
    {s1 s2 : Sem sig} (hs1 : s1 = credS false) (hs2 : s2 = credS true) {z1 z2 : ℤ} (hz1 : z1 = ((1 : ℕ) : ℤ)) (hz2 : z2 = ((1 : ℕ) : ℤ))
    {T : Prog (TpuEff nD τ sig (Elt F) Λ₀ .tc) α} {Q : α → sProp 𝕄} :
    iprop(Ctx m κ ι ∗ Owes c (Ow c a y p p) ∗ Reports false c p ∗ Reports true c p ∗ free false c (min (p + 1 + 4) 32) ∗ free true c (min (p + 1 + 4) 32) ∗ Met c)
      ⊢ iprop(((Owes c (Ow c a y (p + 1) (p + 1)) ∗ Reports false c (p + 1) ∗ Reports true c (p + 1))
          -∗ wp frame (wpE (defs₀ (F := F)) Variants.none (c : Thread nD τ) none) Set.univ T Q)
        -∗ wp frame (wpE (defs₀ (F := F)) Variants.none (c : Thread nD τ) none) Set.univ
          (if h : P then .op (.semSignal (Dev.tc (n1 h)) s1 z1) (fun _ => .op (.semSignal (Dev.tc (n2 h)) s2 z2) (fun _ => T)) else T) Q) := by
  by_cases h : P
  · have h28 := hP.mp h
    rw [dif_pos h, Ow_peel_d c a y p p h28, Ow_peel_e c a y (p + 1) p h28, show min (p + 1 + 4) 32 = p + 5 by omega]
    unfold Met
    iintro ⟨#Hc, HO, HP1, HP2, #HM1, #HM2, #HT1, #HT2⟩ Hk
    ihave ⟨Hd1, HP1⟩ := Reports_peel h28 $$ HP1
    ihave ⟨Hd2, HP2⟩ := Reports_peel h28 $$ HP2
    ihave #HR1 := free_ready (F := F) (b := false) (k := 0) (n := 4) (by omega) $$ HT1
    ihave #HR2 := free_ready (F := F) (b := true) (k := 0) (n := 4) (by omega) $$ HT2
    unfold ready
    icases HR1 with ⟨-, -, #HR1⟩
    icases HR2 with ⟨-, -, #HR2⟩
    iapply (wp_report m κ ι (b := false) h28 (h1 h) hs1 hz1 _) $$ [HO Hd1]
    · isplitl []; · iexact Hc
      isplitl [HO]; · iexact HO
      isplitl [Hd1]; · iexact Hd1
      isplitl []; · iexact HM1
      iexact HR1
    iintro HO
    iapply (wp_report m κ ι (b := true) h28 (h2 h) hs2 hz2 _) $$ [HO Hd2]
    · isplitl []; · iexact Hc
      isplitl [HO]; · iexact HO
      isplitl [Hd2]; · iexact Hd2
      isplitl []; · iexact HM2
      iexact HR2
    iintro HO
    iapply Hk
    isplitl [HO]; · iexact HO
    isplitl [HP1] <;> iassumption
  · have h28 : 28 ≤ p := not_lt.mp fun h' => h (hP.mpr h')
    rw [dif_neg h, Reports_late false c h28, Reports_late true c h28, Ow_late c a y h28]
    iintro ⟨-, HO, HP1, HP2, -⟩ Hk
    iapply Hk
    isplitl [HO]; · iexact HO
    isplitl [HP1] <;> iassumption

set_option maxHeartbeats 1000000 in
/-- One grid point of the kernel: the state goes from before it to after it, and from the third on the window holds its block of the sum. -/
theorem body_ok (c : Dev nD) (i : grid0.Coords) {n : ℕ} (hn : (i 0).val = n) (arg2 : Memref sig .tc .vmem S1024x1024 .f32) (harg2 : arg2.IsWhole)
    (arg3 : Memref sig .tc .vmem S1024x1024 .f32) (harg3 : arg3.IsWhole) (Y : S1024x1024.Idx → Elt F .f32) :
    iprop(Ctx m κ ι ∗ Before m c n ∗ Owes c (owedAt c n) ∗ owns (c : Thread nD τ) arg2 fullShare (xblk m c (n - 2)) ∗ owns (c : Thread nD τ) arg3 fullShare Y)
      ⊢ wp frame (wpE (defs₀ (F := F)) Variants.none (c : Thread nD τ) none) Set.univ
        (cc0_body i (Memref.whole main_arg0) (Memref.isWhole_whole _) arg2 harg2 arg3 harg3 (Memref.whole cc0_scratch0) (Memref.isWhole_whole _)
          (Memref.whole cc0_scratch1) (Memref.isWhole_whole _) cc0_scratch2 cc0_scratch3 cc0_scratch4 cc0_scratch5 cc0_scratch6 cc0_scratch7)
        (fun _ => iprop(Before m c (n + 1) ∗ Owes c (owedAt c (n + 1)) ∗ owns (c : Thread nD τ) arg2 fullShare (xblk m c (n - 2))
          ∗ owns (c : Thread nD τ) arg3 fullShare (if n < 2 then Y else outv m c (n - 2)))) := by
  have hn34 : n < 34 := hn ▸ (i 0).isLt
  simp only [cc0_body_eq_skeleton]
  unfold cc0_body_skel
  simp only [semSignalWord, semWaitWord, Prog.lift, Prog.bind_op, Prog.bind_ret, Prog.pure_eq_ret, wp_deviceId]
  -- the first point: the partners meet
  refine wp_cond iprop(Ctx m κ ι ∗ St m c (min n 32) (n - 2) (min n 32 - 4) ∗ Owes c (Ow c (min n 32) (n - 2) (n - 2) (n - 2))
    ∗ owns (c : Thread nD τ) arg2 fullShare (xblk m c (n - 2)) ∗ owns (c : Thread nD τ) arg3 fullShare Y) (fun h1 => ?_) (fun h1 => ?_) ?_
  · obtain rfl : n = 0 := hn.symm.trans ((cond1_iff i).mp h1)
    unfold Before owedAt
    rw [if_pos rfl, if_pos rfl]
    iintro ⟨#Hc, HS, HO, HXY⟩ Hk
    iapply (step_meet m κ ι (dev1_eq c _) (dev2_eq c _) rfl rfl rfl) $$ [HS HO]
    · isplitl []; · iexact Hc
      isplitl [HS] <;> iassumption
    iintro ⟨HS, HO⟩
    iapply Hk
    isplitl []; · iexact Hc
    isplitl [HS]; · iexact HS
    isplitl [HO]; · iexact HO
    iexact HXY
  · have h0 : n ≠ 0 := fun h => h1 ((cond1_iff i).mpr (hn.trans h))
    unfold Before owedAt
    rw [if_neg h0, if_neg h0]
  -- block `n` goes out along `x`
  refine wp_cond iprop(Ctx m κ ι ∗ St m c (min (n + 1) 32) (n - 2) (min (n + 1) 32 - 4) ∗ Owes c (Ow c (min (n + 1) 32) (n - 2) (n - 2) (n - 2))
    ∗ owns (c : Thread nD τ) arg2 fullShare (xblk m c (n - 2)) ∗ owns (c : Thread nD τ) arg3 fullShare Y) (fun h2 => ?_) (fun h2 => ?_) ?_
  · have hlt : n < 32 := hn ▸ (cond2_iff i).mp h2
    rw [show min n 32 = n by omega, show min (n + 1) 32 = n + 1 by omega]
    refine wp_cond' iprop(Ctx m κ ι ∗ St m c n (n - 2) (n + 1 - 4) ∗ ready false (peer false c) n ∗ Owes c (Ow c n (n - 2) (n - 2) (n - 2))
      ∗ owns (c : Thread nD τ) arg2 fullShare (xblk m c (n - 2)) ∗ owns (c : Thread nD τ) arg3 fullShare Y) (fun h3 => ?_) (fun h3 => ?_) ?_
    · have h3 := (wait_x_iff i).mp h3
      iintro ⟨#Hc, HS, HO, HXY⟩ Hk
      iapply (step_credit m κ ι (p := n - 2) hlt (hn ▸ h3) (by omega) rfl rfl) $$ [HS HO]
      · isplitl []; · iexact Hc
        isplitl [HS] <;> iassumption
      iintro ⟨HS, Hr, HO⟩
      iapply Hk
      isplitl []; · iexact Hc
      isplitl [HS]; · iexact HS
      isplitl [Hr]; · iexact Hr
      isplitl [HO]; · iexact HO
      iexact HXY
    · have h3 := mt (wait_x_iff i).mpr h3
      rw [hn] at h3
      iintro ⟨#Hc, HS, HO, HXY⟩
      rw [show n + 1 - 4 = n - 4 by omega]
      ihave #Hr := met_ready (m := m) (show n < 4 by omega) $$ HS
      isplitl []; · iexact Hc
      isplitl [HS]; · iexact HS
      isplitl []; · iexact Hr
      isplitl [HO]; · iexact HO
      iexact HXY
    iintro ⟨#Hc, HS, Hr, HO, HXY⟩ Hk
    iapply (step_send m κ ι (p := n - 2) (u := n + 1 - 4) hlt (by omega) (by omega) (srcM_of (by rw [off3_eq i c h2, hn]) _) (slotM_of rfl (by rw [off2_eq i h2, hn]) _)
      (semAt_of (by rw [off1_eq i h2, hn]) _) (semAt_of (by rw [off1_eq i h2, hn]) _) (dev3_eq c _)) $$ [HS Hr HO]
    · isplitl []; · iexact Hc
      isplitl [HS]; · iexact HS
      isplitl [Hr] <;> iassumption
    iintro ⟨HS, HO⟩
    iapply Hk
    isplitl []; · iexact Hc
    isplitl [HS]; · iexact HS
    isplitl [HO]; · iexact HO
    iexact HXY
  · have hge : ¬ n < 32 := fun h => h2 ((cond2_iff i).mpr (hn ▸ h))
    rw [show min (n + 1) 32 = min n 32 by omega]
  -- block `n - 2` is used
  refine wp_cond iprop(Before m c (n + 1) ∗ Owes c (owedAt c (n + 1)) ∗ owns (c : Thread nD τ) arg2 fullShare (xblk m c (n - 2))
    ∗ owns (c : Thread nD τ) arg3 fullShare (if n < 2 then Y else outv m c (n - 2))) (fun h4 => ?_) (fun h4 => ?_) ?_
  rotate_left
  · have h4 := mt (cond4_iff i).mpr h4
    rw [hn] at h4
    unfold Before owedAt
    rw [if_neg (by omega), if_neg (by omega), if_pos (by omega), show n + 1 - 2 = n - 2 by omega]
    iintro ⟨-, H⟩
    iexact H
  · rw [wp_ret]
    iintro H
    imodintro
    iexact H
  obtain ⟨p, rfl⟩ : ∃ p, n = p + 2 := ⟨n - 2, by have := (cond4_iff i).mp h4; omega⟩
  rw [show p + 2 - 2 = p by omega]
  unfold Before owedAt
  rw [if_neg (by omega), if_neg (by omega), if_neg (by omega), show p + 2 + 1 - 2 = p + 1 by omega]
  generalize ha : min (p + 2 + 1) 32 = a
  generalize hu : a - 4 = u
  have h32 : p < 32 := by omega
  have hap : p < a := by omega
  have ha' : a < 32 → p + 3 ≤ a := by omega
  rw [wp_bind]
  unfold St Core Mine
  iintro ⟨#Hc, ⟨⟨HS1, HS2, HR1, HR2, HD1, HD2, HP1, HP2, HC1, HC2, HF, HA⟩, ⟨#HM1, #HM2⟩, #HT, HB⟩, HO, HX, HY⟩ Hk
  ihave ⟨HS1, HK1⟩ := Seats_step c false p $$ HS1
  ihave ⟨HS2, HK2⟩ := Seats_step c true p $$ HS2
  ihave ⟨Har1, Has1, #Hrs1, Hrd1⟩ := Seat_open c false h32 $$ HS1
  ihave ⟨Har2, Has2, #Hrs2, Hrd2⟩ := Seat_open c true h32 $$ HS2
  ihave ⟨Hcr1, HD1⟩ := Due_peel h32 $$ HD1
  ihave ⟨Hcr2, HD2⟩ := Due_peel h32 $$ HD2
  ihave ⟨HR, HR2⟩ := Rights_peel h32 $$ HR2
  ihave ⟨Hcs1, HF⟩ := Flying_peel hap $$ HF
  iapply (part1_ok m κ ι h4 hn h32 hap) $$ [Hcr1 HO Har1]
  · isplitl []; · iexact Hc
    isplitl [Hcr1]; · iexact Hcr1
    isplitl [HO]; · iexact HO
    iexact Har1
  iintro %v20 %v30 ⟨HO, Har1, #Hrr1, Hx⟩
  rw [wp_bind]
  ihave ⟨%g, HY⟩ := owns_some (c : Thread nD τ) arg3 Y $$ HY
  iapply (part2_ok m κ ι h4 hn h32 hap (xblk m c p) g) $$ [HC2 HO HR Hx HX HY]
  · isplitl []; · iexact Hc
    isplitl [HC2]; · iexact HC2
    isplitl [HO]; · iexact HO
    isplitl []; · iexact HT
    isplitl [HR]; · iexact HR
    isplitl []; · iexact Hrs2
    isplitl [Hx]; · iexact Hx
    isplitl [HX]; · iexact HX
    iexact HY
  iintro %v87 %hv ⟨HC2, HO, Hcs2, Hx, HX, HY⟩
  rw [wp_bind]
  iapply (part3_ok m κ ι h4 hn h32 ha' g hv) $$ [Hcs1 Has1 Hcr2 Har2 HO HX HY]
  · isplitl []; · iexact Hc
    isplitl [Hcs1]; · iexact Hcs1
    isplitl [Has1]; · iexact Has1
    isplitl [Hcr2]; · iexact Hcr2
    isplitl [Har2]; · iexact Har2
    isplitl [HO]; · iexact HO
    isplitl [HX]; · iexact HX
    iexact HY
  iintro ⟨Has1, #Hrs1', Har2, #Hrr2, Hy, HO, HX, HY⟩
  iapply (wp_arrived m κ ι (c := c) (sm := sendS true p) (r := p / 4) (mem_send true p c) (duties_send m c true p _ (by omega)) (expect_send m c true p _ (by omega))
    (semAt_of (by rw [off4_eq i h4, hn, Nat.add_sub_cancel]) _) 0 (Ow c a (p + 1) p p)) $$ [Hcs2 HO Has2]
  · isplitl []; · iexact Hc
    isplitl [Hcs2]; · iexact Hcs2
    isplitl [HO]; · iexact HO
    isplitl []
    · iapply (ctx_mayWait m κ ι c (.dma (sendS true p)) 0 a (p + 1) p p (by omega) (by rw [lv_send]; omega) (by rw [lv_send]; omega) (by rw [lv_send]; omega) (by rw [lv_send]; omega)) $$ Hc
    iexact Has2
  iintro ⟨HO, Has2, #Hrs2', Hx'⟩
  ihave Hx' := Entails.of_eq (payload_send_y m c p 0) $$ Hx'
  ihave Hx := (owns_halves (c : Thread nD τ) (slotM false p) fullShare (blk m (orig false c) p)).2 $$ [Hx Hx']
  · isplitl [Hx] <;> iassumption
  -- both slots are given back
  imod (seat_return m κ ι c false h32 (blk m (orig false c) p)) $$ [Har1 Has1 Hrd1 Hx] with ⟨HS1, #HM1'⟩
  · isplitl []; · iexact Hc
    isplitl [Har1]; · iexact Har1
    isplitl [Has1]; · iexact Has1
    isplitl []; · iexact Hrs1'
    isplitl []; · iexact Hrr1
    isplitl [Hrd1]; · iexact Hrd1
    isplitl [Hx]; · iexact Hx
    iexact HM1
  imod (seat_return m κ ι c true h32 (blk m (orig true c) p)) $$ [Har2 Has2 Hrd2 Hy] with ⟨HS2, #HM2'⟩
  · isplitl []; · iexact Hc
    isplitl [Har2]; · iexact Har2
    isplitl [Has2]; · iexact Has2
    isplitl []; · iexact Hrs2'
    isplitl []; · iexact Hrr2
    isplitl [Hrd2]; · iexact Hrd2
    isplitl [Hy]; · iexact Hy
    iexact HM2
  ihave HS1 := HK1 $$ HS1
  ihave HS2 := HK2 $$ HS2
  iapply (step_report m κ ι (c := c) (a := a) (y := p + 1) (p := p) ((cond6_iff i h4).trans (by omega)) (fun h => dev5_eq c _) (fun h => dev6_eq c _) rfl rfl rfl rfl) $$ [HO HP1 HP2]
  · isplitl []; · iexact Hc
    isplitl [HO]; · iexact HO
    isplitl [HP1]; · iexact HP1
    isplitl [HP2]; · iexact HP2
    isplitl []; · iexact HM1'
    isplitl []; · iexact HM2'
    iexact HT
  iintro ⟨HO, HP1, HP2⟩
  iapply Hk
  isplitr [HO HX HY]
  · isplitr [HB]
    · isplitl [HS1]; · iexact HS1
      isplitl [HS2]; · iexact HS2
      isplitl [HR1]; · iexact HR1
      isplitl [HR2]; · iexact HR2
      isplitl [HD1]; · iexact HD1
      isplitl [HD2]; · iexact HD2
      isplitl [HP1]; · iexact HP1
      isplitl [HP2]; · iexact HP2
      isplitl [HC1]; · iexact HC1
      isplitl [HC2]; · iexact HC2
      isplitl [HF]; · iexact HF
      iexact HA
    isplitl []
    · isplitl [] <;> iassumption
    isplitl []; · iexact HT
    iexact HB
  isplitl [HO]; · iexact HO
  isplitl [HX]; · iexact HX
  iexact HY

end Cert.KernelIdealProof

end
-- ==== Proof.Ideal.Ends.lean ====
/- How the kernel's state is entered and left: the landing buffers are taken apart into their slots and the slots given out for the first
   blocks; after the last point every semaphore's books are closed and the slots are put together again. -/
module

public import proofs.«01_k».proof.Proof.Ideal.State
public import Idealize.ShloMosaic.Lib.Ring
public import Idealize.ShloMosaic.Lib.Rounds.Family

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Ring (pointsTo_sub_blocks pointsTo_sub_blocks_join_exists)

variable {F : FTy → Type} [FloatOps F]

local notation "𝕄" => MT nD τ sig ℕ (Elt F) ℕ UU ℕ

/-! ## The landing buffers and their slots -/

omit [FloatOps F] in
theorem bigSep_range4 (Φ : ℕ → sProp 𝕄) : bigSep (Finset.range 4) Φ = iprop(Φ 0 ∗ Φ 1 ∗ Φ 2 ∗ Φ 3) := by
  rw [bigSep_eq_bigSepL_of_eq [0, 1, 2, 3] (by decide) (by decide)]; rfl
omit [FloatOps F] in
theorem bigSep_range4_fin (Φ : ℕ → sProp 𝕄) : bigSep (Finset.range 4) Φ = bigSep Finset.univ fun s : Fin 4 => Φ s.val := by
  rw [bigSep_range4, bigSep_univ_eq_bigSepL [0, 1, 2, 3] (by decide) (by decide)]; rfl

omit [FloatOps F] in
theorem bigSep_le {I : Type} (S : Finset I) (Φ Ψ : I → sProp 𝕄) (h : ∀ i ∈ S, Φ i ⊢ Ψ i) : bigSep S Φ ⊢ bigSep S Ψ := bigSep_mono h

/-- Slot `s` as a block of the landing buffer. -/
abbrev slotR (s : ℕ) : Rect S4x512x1024 := Rect.unit (s := S4x512x1024) ![s % 4, 0, 0] S1x512x1024.size (slot_inb s)

theorem slotR_disjoint : ∀ s s' : Fin 4, s ≠ s' → Disjoint (slotR s.val).set (slotR s'.val).set := fun s s' h => by
  refine Rect.unit_disjoint (0 : Fin 3) ?_
  show s.val % 4 + 1 ≤ s'.val % 4 ∨ s'.val % 4 + 1 ≤ s.val % 4
  have := s.isLt; have := s'.isLt; have : s.val ≠ s'.val := fun e => h (Fin.ext e)
  omega
theorem slotR_cover : (Finset.univ : Finset (Fin 4)).biUnion (fun s => (slotR s.val).set) = Finset.univ := by
  ext i
  simp only [Finset.mem_biUnion, Finset.mem_univ, true_and, iff_true]
  have h0 : (i (0 : Fin 3)).val < 4 := (i (0 : Fin 3)).isLt
  have h1 : (i (1 : Fin 3)).val < 512 := (i (1 : Fin 3)).isLt
  have h2 : (i (2 : Fin 3)).val < 1024 := (i (2 : Fin 3)).isLt
  refine ⟨⟨(i (0 : Fin 3)).val, h0⟩, Rect.mem_set_unit.mpr fun a => ?_⟩
  fin_cases a
  · show (i (0 : Fin 3)).val % 4 ≤ (i (0 : Fin 3)).val ∧ (i (0 : Fin 3)).val < (i (0 : Fin 3)).val % 4 + 1; omega
  · show 0 ≤ (i (1 : Fin 3)).val ∧ (i (1 : Fin 3)).val < 0 + 512; omega
  · show 0 ≤ (i (2 : Fin 3)).val ∧ (i (2 : Fin 3)).val < 0 + 1024; omega

/-- The elements of slot `s`. -/
abbrev slotSet (b : Bool) (s : ℕ) : Finset (scrM b).view.ty.Idx := ((scrM b).view.slice (slotR s)).set
theorem slotM_set (b : Bool) (s : ℕ) : (slotM b s).view.set = slotSet b s := View.set_reshape _ _
theorem slotSet_disjoint (b : Bool) : ∀ s s' : Fin 4, s ≠ s' → Disjoint (slotSet b s.val) (slotSet b s'.val) := fun s s' h => by
  unfold slotSet; rw [View.set_slice, View.set_slice]; exact (Finset.disjoint_map _).mpr (slotR_disjoint s s' h)
theorem slotSet_cover (b : Bool) : (Finset.univ : Finset (Fin 4)).biUnion (fun s => slotSet b s.val) = (scrM b).view.set := by
  have h : ∀ s : Fin 4, slotSet b s.val = (slotR s.val).set.map (scrM b).view.emb := fun s => View.set_slice _ _
  simp only [h]
  unfold View.set
  rw [← slotR_cover]
  ext x
  simp only [Finset.mem_biUnion, Finset.mem_map, Finset.mem_univ, true_and]
  exact ⟨fun ⟨s, y, hy, e⟩ => ⟨y, ⟨s, hy⟩, e⟩, fun ⟨y, ⟨s, hy⟩, e⟩ => ⟨s, y, hy, e⟩⟩

/-- A landing buffer, whole, at any contents. -/
def Scr (c : Dev nD) (b : Bool) : sProp 𝕄 := iprop(∃ f, (scrM b).view.loc (c : Thread nD τ) ↦[(scrM b).view.set]{fullShare} f)

omit [FloatOps F] in
theorem Sl_slotSet (c : Dev nD) (b : Bool) (s : ℕ) :
    Sl (F := F) (c, b, s) = iprop(∃ g, (scrM b).view.loc (c : Thread nD τ) ↦[slotSet b s]{fullShare} g) := by
  unfold Sl slot
  exact congrArg (fun I : Finset (scrM b).view.ty.Idx => (iprop(∃ g, (scrM b).view.loc (c : Thread nD τ) ↦[I]{fullShare} g) : sProp 𝕄)) (slotM_set b s)

omit [FloatOps F] in
theorem scr_blocks (c : Dev nD) (b : Bool) (f : Buf (Elt F) ((scrM b).view.loc (c : Thread nD τ))) :
    ((scrM b).view.loc (c : Thread nD τ) ↦[(scrM b).view.set]{fullShare} f : sProp 𝕄)
      = bigSep Finset.univ fun s : Fin 4 => (scrM b).view.loc (c : Thread nD τ) ↦[slotSet b s.val]{fullShare} f :=
  pointsTo_sub_blocks (ℓ := (scrM b).view.loc (c : Thread nD τ)) (fun s : Fin 4 => slotSet b s.val) (slotSet_disjoint b) _ (slotSet_cover b) f

omit [FloatOps F] in
/-- It is its four slots. -/
theorem scr_split (c : Dev nD) (b : Bool) : Scr (F := F) c b ⊢ bigSep (Finset.range 4) fun s => Sl (c, b, s) := by
  rw [bigSep_range4_fin]
  simp only [Sl_slotSet]
  unfold Scr
  iintro ⟨%f, H⟩
  ihave H := Entails.of_eq (scr_blocks c b f) $$ H
  iapply (bigSep_le Finset.univ (fun s : Fin 4 => iprop((scrM b).view.loc (c : Thread nD τ) ↦[slotSet b s.val]{fullShare} f))
    (fun s : Fin 4 => iprop(∃ g, (scrM b).view.loc (c : Thread nD τ) ↦[slotSet b s.val]{fullShare} g)) fun s _ => by
    iintro H; iexists f; iexact H) $$ H
omit [FloatOps F] in
theorem scr_join_at (c : Dev nD) (b : Bool) (f₀ : Buf (Elt F) ((scrM b).view.loc (c : Thread nD τ))) : bigSep (Finset.range 4) (fun s => Sl (F := F) (c, b, s)) ⊢ Scr c b := by
  rw [bigSep_range4_fin]
  simp only [Sl_slotSet]
  unfold Scr
  exact pointsTo_sub_blocks_join_exists (ℓ := (scrM b).view.loc (c : Thread nD τ)) (fun s : Fin 4 => slotSet b s.val) (slotSet_disjoint b) _ (slotSet_cover b) f₀
omit [FloatOps F] in
/-- And the four slots together are it. -/
theorem scr_join (c : Dev nD) (b : Bool) : bigSep (Finset.range 4) (fun s => Sl (F := F) (c, b, s)) ⊢ Scr c b := by
  have h := scr_join_at (F := F) c b
  rw [bigSep_range4] at h ⊢
  rw [Sl_slotSet] at h ⊢
  iintro ⟨⟨%f, H0⟩, H⟩
  iapply (h f)
  isplitl [H0]; · iexists f; iexact H0
  iexact H

/-! ## The cores' own semaphores -/

omit [FloatOps F] in
theorem bigSep_bool (Φ : Bool → sProp 𝕄) : bigSep Finset.univ Φ = iprop(Φ false ∗ Φ true) := by
  rw [bigSep_univ_eq_bigSepL [false, true] (by decide) (by decide)]; rfl

/-- A property of the own semaphores of a direction. -/
def Own (Φ : SemLoc sig → sProp 𝕄) (b : Bool) : sProp 𝕄 :=
  iprop(Φ (.reg (credS b)) ∗ (bigSep (Finset.range 4) fun s => Φ (.dma (sendS b s))) ∗ bigSep (Finset.range 4) fun s => Φ (.dma (recvS b s)))

omit [FloatOps F] in
theorem own_dir (Φ : SemLoc sig → sProp 𝕄) (b : Bool) : (bigSep Finset.univ fun j : Fin 9 => Φ (osem (b, j))) ⊣⊢ Own Φ b := by
  rw [bigSep_univ_eq_bigSepL [0, 1, 2, 3, 4, 5, 6, 7, 8] (by decide) (by decide)]
  unfold Own
  rw [bigSep_range4, bigSep_range4]
  show iprop(Φ (.reg (credS b)) ∗ Φ (.dma (sendS b 0)) ∗ Φ (.dma (sendS b 1)) ∗ Φ (.dma (sendS b 2)) ∗ Φ (.dma (sendS b 3))
    ∗ Φ (.dma (recvS b 0)) ∗ Φ (.dma (recvS b 1)) ∗ Φ (.dma (recvS b 2)) ∗ Φ (.dma (recvS b 3))) ⊣⊢ _
  constructor
  · iintro ⟨H0, H1, H2, H3, H4, H5, H6, H7, H8⟩
    isplitl [H0]; · iexact H0
    isplitl [H1 H2 H3 H4]
    · isplitl [H1]; · iexact H1
      isplitl [H2]; · iexact H2
      isplitl [H3] <;> iassumption
    · isplitl [H5]; · iexact H5
      isplitl [H6]; · iexact H6
      isplitl [H7] <;> iassumption
  · iintro ⟨H0, ⟨H1, H2, H3, H4⟩, H5, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption

omit [FloatOps F] in
theorem own_split (Φ : SemLoc sig → sProp 𝕄) : (bigSep Finset.univ fun j : Bool × Fin 9 => Φ (osem j)) ⊢ iprop(Own Φ false ∗ Own Φ true) := by
  rw [bigSep_univ_prod, bigSep_bool]
  iintro ⟨H, H'⟩
  isplitl [H]
  · iapply (own_dir Φ false).1 $$ H
  · iapply (own_dir Φ true).1 $$ H'
omit [FloatOps F] in
theorem own_join (Φ : SemLoc sig → sProp 𝕄) : iprop(Own Φ false ∗ Own Φ true) ⊢ bigSep Finset.univ fun j : Bool × Fin 9 => Φ (osem j) := by
  rw [bigSep_univ_prod, bigSep_bool]
  iintro ⟨H, H'⟩
  isplitl [H]
  · iapply (own_dir Φ false).2 $$ H
  · iapply (own_dir Φ true).2 $$ H'

/-! ## Entering -/

variable (m : (ℓ : Loc nD τ sig) → Buf (Elt F) ℓ) (κ : GSem nD τ sig → ℕ) (ι : Key → ℕ)

/-- What a device gets at launch for a direction. -/
def RawDir (c : Dev nD) (b : Bool) : sProp 𝕄 :=
  iprop(Own (fun sm => iprop(atPos ER ((c : Thread nD τ), sm) 0 ∅ 0 ∗ reached ER ((c : Thread nD τ), sm) 0)) b
    ∗ (bigSep (Finset.range 4) fun s => readerAt ES (c, b, s) 0)
    ∗ Rights b c 0 ∗ Due b c 0 ∗ Reports b c 0 ∗ bigSep (Finset.Ico 0 28) fun j => cred (tallyAt (credCell b c) j 1))

/-- A slot is given out for its first block. -/
theorem enter_slot (c : Dev nD) (b : Bool) (s : ℕ) (hs : s < 4) :
    iprop(Ctx m κ ι ∗ reached ER (credCell b c) 0 ∗ Sl (c, b, s) ∗ readerAt ES (c, b, s) 0
        ∗ (atPos ER (sendCell b s c) 0 ∅ 0 ∗ reached ER (sendCell b s c) 0) ∗ (atPos ER (recvCell b s c) 0 ∅ 0 ∗ reached ER (recvCell b s c) 0))
      ⊢ |={Set.univ}=> (Seat c b s 0 ∗ ready b c s) := by
  have hd : s / 4 = 0 := by omega
  have h := ctx_release m κ ι c b s 0
  rw [← Sl_eq] at h
  unfold Seat ready
  rw [hd, if_pos (by decide)]
  have hm : s % 4 = s := by omega
  rw [hm] at h ⊢
  iintro ⟨#Hc, #Hr0, Hs, Hr, ⟨Ha, #Hra⟩, ⟨Hb, #Hrb⟩⟩
  imod h $$ [Hs Hr] with ⟨Hr, #Hrel⟩
  · isplitl []; · iexact Hc
    isplitl [Hr] <;> iassumption
  imodintro
  isplitl [Hr Ha Hb]
  · isplitl [Hb]; · iexact Hb
    isplitl [Ha]; · iexact Ha
    isplitl []; · iexact Hra
    iexact Hr
  isplitl []; · iexact Hrel
  isplitl []
  · iexact Hrb
  iexact Hr0

omit [FloatOps F] in
theorem zip_dir (c : Dev nD) (b : Bool) (P : sProp 𝕄) [BI.Persistent P] (A B C D Q : ℕ → sProp 𝕄) (h : ∀ s, s < 4 → iprop(P ∗ A s ∗ B s ∗ C s ∗ D s) ⊢ |={Set.univ}=> Q s) :
    iprop(P ∗ bigSep (Finset.range 4) A ∗ bigSep (Finset.range 4) B ∗ bigSep (Finset.range 4) C ∗ bigSep (Finset.range 4) D)
      ⊢ |={Set.univ}=> bigSep (Finset.range 4) Q := by
  rw [← bigSep_sep', ← bigSep_sep', ← bigSep_sep']
  refine .trans ?_ (bigSep_fupd _ _)
  refine (sep_mono_left (BI.bigSep_of_persistent (Finset.range 4) P)).trans ?_
  rw [← bigSep_sep']
  exact bigSep_mono fun s hs => h s (Finset.mem_range.mp hs)

theorem enter_dir (c : Dev nD) (b : Bool) : iprop(Ctx m κ ι ∗ RawDir c b ∗ Scr c b)
    ⊢ |={Set.univ}=> (Seats c b 0 ∗ Rights b c 0 ∗ Due b c 0 ∗ Reports b c 0 ∗ CredSt c b 0 ∗ free b c 4) := by
  unfold RawDir Own CredSt free Seats
  rw [if_pos (by decide)]
  iintro ⟨#Hc, ⟨⟨⟨Ha, #Hr⟩, Hs, Hv⟩, Hrd, HR, HD, HP, HC⟩, HS⟩
  ihave HS := scr_split c b $$ HS
  imod (zip_dir c b iprop(Ctx m κ ι ∗ reached ER (credCell b c) 0) (fun s => Sl (c, b, s)) (fun s => readerAt ES (c, b, s) 0)
    (fun s => iprop(atPos ER (sendCell b s c) 0 ∅ 0 ∗ reached ER (sendCell b s c) 0))
    (fun s => iprop(atPos ER (recvCell b s c) 0 ∅ 0 ∗ reached ER (recvCell b s c) 0)) (fun s => iprop(Seat c b s 0 ∗ ready b c s))
    fun s hs => sep_assoc.1.trans (enter_slot m κ ι c b s hs)) $$ [HS Hrd Hs Hv] with H
  · isplitl []; · isplitl []; · iexact Hc
                  iexact Hr
    isplitl [HS]; · iexact HS
    isplitl [Hrd]; · iexact Hrd
    isplitl [Hs] <;> iassumption
  ihave H := Entails.of_eq (bigSep_sep' (Finset.range 4) (fun s => Seat (F := F) c b s 0) (fun s => ready b c s)) $$ H
  icases H with ⟨H, Hf⟩
  imodintro
  isplitl [H]
  · iapply (bigSep_le (Finset.range 4) (fun s => Seat (F := F) c b s 0) (fun s => Seat (F := F) c b s (cnt 0 s)) fun s hs => by
      rw [show cnt 0 s = 0 by unfold cnt; rw [Finset.mem_range] at hs; omega]) $$ H
  isplitl [HR]; · iexact HR
  isplitl [HD]; · iexact HD
  isplitl [HP]; · iexact HP
  isplitl [Ha HC]
  · isplitl [HC]; · iexact HC
    iexists ∅
    isplitr; · ipureintro; exact Finset.empty_subset _
    isplitl [Ha]; · iexact Ha
    rw [bigSep_empty]; iempintro
  iexact Hf

/-- What a device gets at launch. -/
def Raw (c : Dev nD) : sProp 𝕄 :=
  iprop(RawDir c false ∗ RawDir c true ∗ (atPos ER (barCell c) 0 ∅ 0 ∗ cred (tallyAt (barCell c) 0 2)
    ∗ (dutyTok ER (barCell (peer false c)) 0 0 ∗ reached ER (barCell (peer false c)) 0)
    ∗ (dutyTok ER (barCell (peer true c)) 0 1 ∗ reached ER (barCell (peer true c)) 0)) ∗ Arg m c)

/-- With the landing buffers it is the state before the first grid point. -/
theorem enter (c : Dev nD) : iprop(Ctx m κ ι ∗ Raw m c ∗ Scr c false ∗ Scr c true) ⊢ |={Set.univ}=> Start m c := by
  unfold Raw Start Core Mine Flying
  iintro ⟨#Hc, ⟨Hx, Hy, Hb, HA⟩, Sx, Sy⟩
  imod (enter_dir m κ ι c false) $$ [Hx Sx] with ⟨Hx1, Hx2, Hx3, Hx4, Hx5, Hx6⟩
  · isplitl []; · iexact Hc
    isplitl [Hx] <;> iassumption
  imod (enter_dir m κ ι c true) $$ [Hy Sy] with ⟨Hy1, Hy2, Hy3, Hy4, Hy5, Hy6⟩
  · isplitl []; · iexact Hc
    isplitl [Hy] <;> iassumption
  imodintro
  isplitr [Hx6 Hy6 Hb]
  · isplitl [Hx1]; · iexact Hx1
    isplitl [Hy1]; · iexact Hy1
    isplitl [Hx2]; · iexact Hx2
    isplitl [Hy2]; · iexact Hy2
    isplitl [Hx3]; · iexact Hx3
    isplitl [Hy3]; · iexact Hy3
    isplitl [Hx4]; · iexact Hx4
    isplitl [Hy4]; · iexact Hy4
    isplitl [Hx5]; · iexact Hx5
    isplitl [Hy5]; · iexact Hy5
    isplitr [HA]
    · rw [Finset.Ico_self, bigSep_empty]; iempintro
    iexact HA
  isplitl [Hx6 Hy6]
  · isplitl [Hx6]
    · iexact Hx6
    iexact Hy6
  iexact Hb

/-! ## Leaving -/

theorem leave_slot (c : Dev nD) (b : Bool) (s : ℕ) (hs : s < 4) :
    iprop(Ctx m κ ι ∗ Seat c b s 8) ⊢ |={Set.univ}=> (semVal (sendCell b s c) 0 ∗ semVal (recvCell b s c) 0 ∗ Sl (c, b, s)) := by
  unfold Seat
  rw [if_neg (by decide), Nat.mod_eq_of_lt hs]
  iintro ⟨#Hc, Hr, Hs, -, HS⟩
  ihave #Hi1 := ctx_cell m κ ι (mem_send b s c) $$ Hc
  ihave #Hi2 := ctx_cell m κ ι (mem_recv b s c) $$ Hc
  imod (cell_close ER (Rd m) (κ := κ (sendCell b s c)) (Set.mem_univ _) (fun h => h) (duties_send_later m c b s)) $$ [Hi1 Hs] with Hs
  · isplitl [Hi1] <;> iassumption
  imod (cell_close ER (Rd m) (κ := κ (recvCell b s c)) (Set.mem_univ _) (fun h => h) (duties_recv_later m c b s)) $$ [Hi2 Hr] with Hr
  · isplitl [Hi2] <;> iassumption
  imodintro
  isplitl [Hs]; · iexact Hs
  isplitl [Hr] <;> iassumption

theorem leave_dir (c : Dev nD) (b : Bool) :
    iprop(Ctx m κ ι ∗ Seats c b 32 ∗ CredSt c b 28) ⊢ |={Set.univ}=> (Own (fun sm => semVal ((c : Thread nD τ), sm) 0) b ∗ Scr c b) := by
  unfold Seats CredSt Own
  rw [if_neg (by decide)]
  iintro ⟨#Hc, HS, -, Ha⟩
  ihave #Hi := ctx_cell m κ ι (mem_cred b c) $$ Hc
  imod (cell_close ER (Rd m) (κ := κ (credCell b c)) (Set.mem_univ _) (fun h => h) (duties_cred_later m c b)) $$ [Hi Ha] with Ha
  · isplitl [Hi] <;> iassumption
  imod ((sep_mono_left (BI.bigSep_of_persistent (Finset.range 4) (Ctx m κ ι))).trans ((Entails.of_eq (bigSep_sep' (Finset.range 4) (fun _ => Ctx m κ ι) (fun s => Seat c b s (cnt 32 s))).symm).trans
    ((bigSep_mono (Ψ := fun s => iprop(|={Set.univ}=> (semVal (sendCell b s c) 0 ∗ semVal (recvCell b s c) 0 ∗ Sl (c, b, s)))) fun s hs => by
      rw [Finset.mem_range] at hs
      rw [show cnt 32 s = 8 by unfold cnt; omega]
      exact leave_slot m κ ι c b s hs).trans (bigSep_fupd _ _)))) $$ [HS] with H
  · isplitl []; · iexact Hc
    iexact HS
  ihave H := Entails.of_eq (bigSep_sep' (Finset.range 4) (fun s => semVal (sendCell b s c) 0) (fun s => iprop(semVal (recvCell b s c) 0 ∗ Sl (F := F) (c, b, s)))) $$ H
  icases H with ⟨H1, H⟩
  ihave H := Entails.of_eq (bigSep_sep' (Finset.range 4) (fun s => semVal (recvCell b s c) 0) (fun s => Sl (F := F) (c, b, s))) $$ H
  icases H with ⟨H2, H⟩
  imodintro
  isplitr [H]
  · isplitl [Ha]; · iexact Ha
    isplitl [H1] <;> iassumption
  iapply (scr_join c b) $$ H

/-- What a device ends with. -/
def Done (c : Dev nD) : sProp 𝕄 :=
  iprop((semVal (barCell c) 0 ∗ Arg m c) ∗ (Own (fun sm => semVal ((c : Thread nD τ), sm) 0) false ∗ Own (fun sm => semVal ((c : Thread nD τ), sm) 0) true)
    ∗ Scr c false ∗ Scr c true)

/-- After the last grid point every counter is read at zero and the landing buffers are whole again. -/
theorem leave (c : Dev nD) : iprop(Ctx m κ ι ∗ St m c 32 32 28) ⊢ |={Set.univ}=> Done m c := by
  unfold St Core Done
  iintro ⟨#Hc, ⟨Hx, Hy, -, -, -, -, -, -, Cx, Cy, -, HA⟩, -, -, Ha⟩
  imod (leave_dir m κ ι c false) $$ [Hx Cx] with ⟨Hx, Sx⟩
  · isplitl []; · iexact Hc
    isplitl [Hx] <;> iassumption
  imod (leave_dir m κ ι c true) $$ [Hy Cy] with ⟨Hy, Sy⟩
  · isplitl []; · iexact Hc
    isplitl [Hy] <;> iassumption
  ihave #Hi := ctx_cell m κ ι (mem_bar c) $$ Hc
  imod (cell_close ER (Rd m) (κ := κ (barCell c)) (Set.mem_univ _) (fun h => h) (duties_bar_later m c)) $$ [Hi Ha] with Ha
  · isplitl [Hi] <;> iassumption
  imodintro
  isplitl [Ha HA]; · isplitl [Ha] <;> iassumption
  isplitl [Hx Hy]; · isplitl [Hx] <;> iassumption
  isplitl [Sx] <;> iassumption

end Cert.KernelIdealProof

end
-- ==== Proof.Ideal.Data.lean ====
/- The pipeline's proof data on a device: what each window's buffer holds after a point, what the kernel keeps between points and what it
   owes; the kernel's body as the pipeline calls it; what the result array holds at the end. -/
module

public import proofs.«01_k».proof.Proof.Ideal.Body
public import proofs.«01_k».proof.Proof.Ideal.Ends
public import proofs.«01_k».proof.Proof.Gen.KernelIdeal.Points
public import Idealize.ShloMosaic.Lib.Pipeline.ValueKit.Geometry

@[expose] public section

noncomputable section

namespace Cert.KernelIdealProof

open Cert.KernelIdeal Cert.KernelIdeal.Gen
open Idealize.ShloMosaic
open Idealize.ShloMosaic.TcCoe
open Idealize.ShloMosaic.Pipeline (Dat Cfg BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)

/-! ## Which block each window is on -/

omit [FloatOps F] in
theorem coord_val : ∀ t : Fin cfg0.N, (grid0.coords t 0).val = t.val := by decide +kernel
omit [FloatOps F] in
theorem index0_0 : ∀ t : Fin cfg0.N, win0_0.index t = ![t.val - 2, 0] := by decide +kernel
omit [FloatOps F] in
theorem index0_1 : ∀ t : Fin cfg0.N, win0_1.index t = ![t.val - 2, 0] := by decide +kernel
omit [FloatOps F] in
theorem flush0_1 : ∀ t : Fin cfg0.N, (cfg0.win 1).flush t = decide (2 ≤ t.val) := by decide +kernel
omit [FloatOps F] in
theorem idle0_1 : ∀ t : Fin cfg0.N, cfg0.idle 1 (cfg0.grid.coords t) = decide (t.val < 2) := by decide +kernel
theorem lt34 (t : Fin cfg0.N) : t.val < 34 := N_0 ▸ t.isLt

omit [FloatOps F] in
/-- An element of the argument window's block is the argument's at the block's rows; -/
theorem emb0_0 (t : Fin cfg0.N) (y : ((cfg0.win 0).xblock (cfg0.grid.coords t)).Idx) :
    ((cfg0.win 0).blk t).view.emb y = at_ (t.val - 2) y := by
  have h := lt34 t
  refine funext fun a => Fin.ext ?_
  blk_simp
  rw [index0_0]
  fin_cases a
  · show (t.val - 2) * 1024 + (y (0 : Fin 2)).val = 1024 * ((t.val - 2) % 32) + (y (0 : Fin 2)).val; omega
  · show 0 * 1024 + (y (1 : Fin 2)).val = (y (1 : Fin 2)).val; omega
omit [FloatOps F] in
/-- of the result window's, the result's. -/
theorem emb0_1 (t : Fin cfg0.N) (y : ((cfg0.win 1).xblock (cfg0.grid.coords t)).Idx) :
    ((cfg0.win 1).blk t).view.emb y = at_ (t.val - 2) y := by
  have h := lt34 t
  refine funext fun a => Fin.ext ?_
  blk_simp
  rw [index0_1]
  fin_cases a
  · show (t.val - 2) * 1024 + (y (0 : Fin 2)).val = 1024 * ((t.val - 2) % 32) + (y (0 : Fin 2)).val; omega
  · show 0 * 1024 + (y (1 : Fin 2)).val = (y (1 : Fin 2)).val; omega

/-! ## The proof data -/

/-- What a device keeps before point `n`: at first the launch's share with the landing buffers whole, at the end everything given back. -/
def Phi (c : Dev nD) (n : ℕ) : sProp 𝕄 :=
  if n = 34 then Done m c
  else iprop(∃ κ ι, Ctx m κ ι ∗ (if n = 0 then iprop(Raw m c ∗ Scr c false ∗ Scr c true) else Before m c n))

theorem Phi_in (c : Dev nD) {n : ℕ} (h : n < 34) : Phi m c n ⊢ iprop(|={Set.univ}=> ∃ κ ι, Ctx m κ ι ∗ Before m c n) := by
  unfold Phi
  rw [if_neg (by omega)]
  by_cases h0 : n = 0
  · rw [if_pos h0]
    unfold Before
    rw [if_pos h0]
    iintro ⟨%κ, %ι, #Hc, H⟩
    imod (enter m κ ι c) $$ [H] with HS
    · isplitl []; · iexact Hc
      iexact H
    imodintro
    iexists κ; iexists ι
    isplitl []; · iexact Hc
    iexact HS
  · rw [if_neg h0]
    iintro H
    imodintro
    iexact H

theorem Phi_out (c : Dev nD) {n : ℕ} (h : n < 34) (κ ι) : iprop(Ctx m κ ι ∗ Before m c (n + 1)) ⊢ iprop(|={Set.univ}=> Phi m c (n + 1)) := by
  unfold Phi
  by_cases h34 : n + 1 = 34
  · rw [if_pos h34, h34]
    exact leave m κ ι c
  · rw [if_neg h34, if_neg (show ¬n + 1 = 0 by omega)]
    iintro H
    imodintro
    iexists κ; iexists ι
    iexact H

/-- The result of device `c`, by element: its own argument and its counterpart's, added. -/
def resv (c : Dev nD) : S32768x1024.Idx → Elt F .f32 := fun x =>
  FloatOps.addf (xv m c x) (xv m (who c ((x (0 : Fin 2)).val % 1024)) x)

/-- The proof data on device `c`. The argument is held at half a share by its window; the other half is the body's own copies'. -/
def dat (c : Dev nD) : Dat τ (Elt F) ℕ ℕ UU ℕ cfg0 c where
  A := fun | 0 => xv m c | 1 => m ((c : Thread nD τ).loc main_v1)
  after := fun | 0 => fun t => xblk m c (t.val - 2) | 1 => fun t => outv m c (t.val - 2)
  Φ t := Phi m c t.val
  q := fun | 0 => fullShare.left | 1 => fullShare
  owed t := owedAt c t.val

/-- The argument window's buffer holds its block of the argument at every point. -/
theorem before0_0 (c : Dev nD) (t : Fin cfg0.N) (d) : (dat m c).before 0 t d = xblk m c (t.val - 2) := by
  have hr : ∀ t : Fin cfg0.N, (dat m c).blockOf 0 t = xblk m c (t.val - 2) := fun t => by
    unfold Dat.blockOf
    refine funext fun y => ?_
    show xv m c (((cfg0.win 0).blk t).view.emb y) = xv m c (at_ (t.val - 2) y)
    rw [emb0_0]
  exact ((dat m c).before_in_eq_fetched 0 rfl (fun _ => rfl) (fun _ _ _ => rfl) (fun t => (hr t).symm) t d).trans
    ((by unfold Dat.fetched; rfl : (dat m c).fetched 0 t d = (dat m c).blockOf 0 t).trans (hr t))

/-- At the end the result array holds the result. -/
theorem arr0_1 (c : Dev nD) : (dat m c).arrAt 1 cfg0.N = resv m c := by
  refine (dat m c).arrAt_eq_of_covers 1 _ (by decide +kernel) fun t hf y => ?_
  rw [emb0_1]
  show outv m c (t.val - 2) y = resv m c (at_ (t.val - 2) y)
  unfold outv resv
  have h1 : (y (0 : Fin 2)).val < 1024 := (y (0 : Fin 2)).isLt
  rw [show ((at_ (t.val - 2) y) (0 : Fin 2)).val % 1024 = (y (0 : Fin 2)).val from by
    show (1024 * ((t.val - 2) % 32) + (y (0 : Fin 2)).val) % 1024 = _; omega]

/-! ## The body at a point -/

theorem owesAt_intro (c : Dev nD) (t : Fin (cfg0.N + 1)) : Owes (F := F) c (owedAt c t.val) ⊢ (dat m c).owesAt 0 t := by
  unfold Owes Dat.owesAt Pipeline.owesWithin Dat.bound
  iintro ⟨%W, HO⟩; iexists W; isplitr; · ipureintro; exact fun _ _ => Or.inl trivial
  iexact HO
theorem owesAt_elim (c : Dev nD) (t : Fin (cfg0.N + 1)) : (dat m c).owesAt 0 t ⊢ Owes (F := F) c (owedAt c t.val) := by
  unfold Owes Dat.owesAt Pipeline.owesWithin
  iintro ⟨%W, -, HO⟩; iexists W; iexact HO

/-- The result window's buffer after point `t`: as it was at the two idle points, the block of the result after the others. -/
theorem after0_1 (c : Dev nD) (t : Fin cfg0.N) (d) :
    owns (c : Thread nD τ) (st0_1 t) fullShare (if t.val < 2 then (dat m c).before 1 t d else outv m c (t.val - 2))
      ⊢ (match cfg0.idle 1 (cfg0.grid.coords t) with
          | true =>
            match (cfg0.win 1).flush t with
            | false => iprop(∃ d, owns (c : Thread nD τ) ((cfg0.win 1).stage (cfg0.slots t 1)) fullShare ((dat m c).before 1 t d))
            | true => owns (c : Thread nD τ) ((cfg0.win 1).stage (cfg0.slots t 1)) fullShare ((dat m c).after 1 t)
          | false => owns (c : Thread nD τ) ((cfg0.win 1).stage (cfg0.slots t 1)) fullShare ((dat m c).after 1 t) : sProp 𝕄) := by
  rw [idle0_1, flush0_1]
  by_cases h : t.val < 2
  · rw [decide_eq_true h, decide_eq_false (show ¬2 ≤ t.val by omega), if_pos h]
    iintro H; iexists d; iexact H
  · rw [decide_eq_false h, if_neg h]
    exact .rfl

theorem Phi_succ (c : Dev nD) (t : Fin cfg0.N) : (dat m c).Φ t.succ = Phi m c (t.val + 1) := by
  show Phi m c t.succ.val = _; rw [Fin.val_succ]

/-- The body obligation of the pipeline. -/
theorem body (c : Dev nD) : BodyObligation (dat m c) (defs₀ (F := F)) Variants.none 0 Set.univ := fun t => by
  rw [bigSep_W0, bigSep_W0]
  show iprop(Phi m c t.val ∗ (dat m c).owesAt 0 t.castSucc ∗ (∃ d, owns (c : Thread nD τ) (st0_0 t) fullShare ((dat m c).before 0 t d))
      ∗ (∃ d, owns (c : Thread nD τ) (st0_1 t) fullShare ((dat m c).before 1 t d))) ⊢ wp frame (wpE (defs₀ (F := F)) Variants.none (c : Thread nD τ) none) Set.univ (bodyAt0 t) _
  iintro ⟨HΦ, HO, ⟨%d0, H0⟩, %d1, H1⟩
  rw [before0_0]
  iapply fupd_wp
  imod (Phi_in m c (lt34 t)) $$ HΦ with ⟨%κ, %ι, #Hc, HB⟩
  ihave HO := (owesAt_elim m c t.castSucc) $$ HO
  imodintro
  iapply wp_fupd
  ihave Hw := (body_ok m κ ι c (grid0.coords t) (coord_val t) (st0_0 t) (hstage0_0 ((cfg0.slots t 0).cast nbuf0_0)) (st0_1 t)
    (hstage0_1 ((cfg0.slots t 1).cast nbuf0_1)) ((dat m c).before 1 t d1)) $$ [HB HO H0 H1]
  · isplitl []; · iexact Hc
    isplitl [HB]; · iexact HB
    isplitl [HO]; · iexact HO
    isplitl [H0]; · iexact H0
    iexact H1
  iapply wp_wand $$ Hw
  iintro %v ⟨HB, HO, H0, H1⟩
  imod (Phi_out m c (lt34 t) κ ι) $$ [HB] with HΦ
  · isplitl []; · iexact Hc
    iexact HB
  imodintro
  isplitl [HΦ]; · iapply (Entails.of_eq (Phi_succ m c t).symm); iexact HΦ
  isplitl [HO]; · iapply (owesAt_intro m c t.succ); iexact HO
  isplitl [H0]; · iexact H0
  iapply (after0_1 m c t d1); iexact H1

end Cert.KernelIdealProof

end
-- ==== Proof.Ideal.Deal.lean ====
/- What the launch deals the devices: every right to signal a cell to the device that will signal it, the right to write a slot to the
   device that will write it, a cell's and a slot's owner's share to the owner, and the credit of what is owed to a device to that device. -/
module

public import proofs.«01_k».proof.Proof.Ideal.Ends
public import proofs.«01_k».proof.Proof.Gen.KernelIdeal.Launch

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Conjunctions over what is dealt -/

omit [FloatOps F] in
theorem bigSep_sum {A B : Type} [Fintype A] [Fintype B] [DecidableEq A] [DecidableEq B] (Φ : A ⊕ B → sProp 𝕄) :
    bigSep Finset.univ Φ = iprop((bigSep Finset.univ fun a => Φ (.inl a)) ∗ bigSep Finset.univ fun b => Φ (.inr b)) := by
  have h : (Finset.univ : Finset (A ⊕ B)) = (Finset.univ.map Function.Embedding.inl) ∪ (Finset.univ.map Function.Embedding.inr) := by
    ext x; cases x <;> simp
  rw [h, BI.bigSep_union (by
    rw [Finset.disjoint_left]
    intro x hx hy
    obtain ⟨a, -, rfl⟩ := Finset.mem_map.mp hx
    obtain ⟨b, -, hb⟩ := Finset.mem_map.mp hy
    cases hb), bigSep_map, bigSep_map]
  rfl

omit [FloatOps F] in
theorem bigSep_fin_Ico (n : ℕ) (Φ : ℕ → sProp 𝕄) : (bigSep Finset.univ fun k : Fin n => Φ k.val) = bigSep (Finset.Ico 0 n) Φ := by
  rw [← Finset.range_eq_Ico]
  exact Ring.bigSep_fin_eq_range n _ Φ fun _ _ => rfl

omit [FloatOps F] in
/-- What is listed once by device and by index is dealt by device. -/
theorem deal {I X : Type} [Fintype I] (f : Dev nD × I → X) (hf : Function.Injective f) (Φ : X → sProp 𝕄) :
    bigSep (Finset.univ.map ⟨f, hf⟩) Φ = bigSep Finset.univ fun c : Dev nD => bigSep Finset.univ fun i : I => Φ (f (c, i)) := by
  rw [bigSep_map, bigSep_univ_prod]; rfl

omit [FloatOps F] in
theorem bigSep_pair {I : Type} [Fintype I] (Φ : Bool × I → sProp 𝕄) :
    bigSep Finset.univ Φ = iprop((bigSep Finset.univ fun i => Φ (false, i)) ∗ bigSep Finset.univ fun i => Φ (true, i)) := by
  rw [bigSep_univ_prod, bigSep_bool]

/-! ## The rights to signal -/

/-- A device's signals in a direction: the completions of its sends, their arrivals at its partner, its reports, and its barrier signal. -/
abbrev Sig : Type := Fin 32 ⊕ Fin 32 ⊕ Fin 28 ⊕ Unit

/-- The cell, the round and the number of a signal. -/
def tok : Dev nD × Bool × Sig → GSem nD τ sig × ℕ × ℕ
  | (c, b, .inl k) => (sendCell b k.val c, k.val / 4, 0)
  | (c, b, .inr (.inl k)) => (recvCell b k.val (peer b c), k.val / 4, 0)
  | (c, b, .inr (.inr (.inl k))) => (credCell b (peer b c), 0, k.val)
  | (c, b, .inr (.inr (.inr _))) => (barCell (peer b c), 0, if b then 1 else 0)

/-- Whose signal it is. -/
def untok (x : GSem nD τ sig × ℕ × ℕ) : Option (Dev nD × Bool × Sig) :=
  match role x.1.2 with
  | .send b s => some (x.1.1.1, b, .inl ⟨(4 * x.2.1 + s) % 32, Nat.mod_lt _ (by decide)⟩)
  | .recv b s => some (peer b x.1.1.1, b, .inr (.inl ⟨(4 * x.2.1 + s) % 32, Nat.mod_lt _ (by decide)⟩))
  | .cred b => some (peer b x.1.1.1, b, .inr (.inr (.inl ⟨x.2.2 % 28, Nat.mod_lt _ (by decide)⟩)))
  | .bar => some (peer (decide (x.2.2 ≠ 0)) x.1.1.1, decide (x.2.2 ≠ 0), .inr (.inr (.inr ())))
  | .other => none

theorem untok_tok : ∀ x, untok (tok x) = some x
  | (c, b, .inl k) => by
    have hk := k.isLt
    unfold untok tok
    dsimp only
    rw [role_send]
    dsimp only
    refine congrArg some (Prod.ext rfl (Prod.ext rfl (congrArg Sum.inl (Fin.ext ?_))))
    show (4 * (k.val / 4) + k.val % 4) % 32 = k.val; omega
  | (c, b, .inr (.inl k)) => by
    have hk := k.isLt
    unfold untok tok
    dsimp only
    rw [role_recv]
    dsimp only
    refine congrArg some (Prod.ext (peer_peer b c) (Prod.ext rfl (congrArg (fun k => Sum.inr (Sum.inl k)) (Fin.ext ?_))))
    show (4 * (k.val / 4) + k.val % 4) % 32 = k.val; omega
  | (c, b, .inr (.inr (.inl k))) => by
    have hk := k.isLt
    unfold untok tok
    dsimp only
    rw [role_cred]
    dsimp only
    refine congrArg some (Prod.ext (peer_peer b c) (Prod.ext rfl (congrArg (fun k => Sum.inr (Sum.inr (Sum.inl k))) (Fin.ext ?_))))
    show k.val % 28 = k.val; omega
  | (c, b, .inr (.inr (.inr u))) => by
    unfold untok tok
    dsimp only
    rw [role_bar]
    dsimp only
    cases b
    · exact congrArg some (Prod.ext (peer_peer false c) (Prod.ext rfl rfl))
    · exact congrArg some (Prod.ext (peer_peer true c) (Prod.ext rfl rfl))

theorem tok_injective : Function.Injective tok := fun x y h =>
  Option.some.inj ((untok_tok x).symm.trans ((congrArg untok h).trans (untok_tok y)))

/-- All of them. -/
def toks : Finset (GSem nD τ sig × ℕ × ℕ) := Finset.univ.map ⟨tok, tok_injective⟩

/-- The rights to signal that a device holds in a direction. -/
def Toks (b : Bool) (c : Dev nD) : sProp 𝕄 :=
  iprop((bigSep (Finset.Ico 0 32) fun k => dutyTok ER (sendCell b k c) (k / 4) 0)
    ∗ (bigSep (Finset.Ico 0 32) fun k => dutyTok ER (recvCell b k (peer b c)) (k / 4) 0)
    ∗ Reports b c 0 ∗ dutyTok ER (barCell (peer b c)) 0 (if b then 1 else 0))

omit [FloatOps F] in
theorem deal_toks : bigSep toks (fun x => (dutyTok ER x.1 x.2.1 x.2.2 : sProp 𝕄)) = bigSep Finset.univ fun c : Dev nD => iprop(Toks false c ∗ Toks true c) := by
  unfold toks
  rw [deal]
  refine bigSep_congr fun c _ => ?_
  have h (b : Bool) : (bigSep Finset.univ fun s : Sig => (dutyTok ER (tok (c, b, s)).1 (tok (c, b, s)).2.1 (tok (c, b, s)).2.2 : sProp 𝕄)) = Toks b c := by
    rw [bigSep_sum, bigSep_sum, bigSep_sum]
    unfold Toks Reports
    rw [← bigSep_fin_Ico, ← bigSep_fin_Ico, ← bigSep_fin_Ico, show (Finset.univ : Finset Unit) = {()} from rfl, bigSep_singleton]
    rfl
  rw [bigSep_pair, h, h]

/-! ## The slots -/

/-- The slot a device's send of a block writes, and its trip. -/
def dest (x : Dev nD × Bool × Fin 32) : Key × ℕ := ((peer x.2.1 x.1, x.2.1, x.2.2.val % 4), x.2.2.val / 4)
theorem dest_injective : Function.Injective dest := fun ⟨c, b, k⟩ ⟨c', b', k'⟩ h => by
  obtain ⟨h, ht⟩ := Prod.mk.inj h
  obtain ⟨hc, h⟩ := Prod.mk.inj h
  obtain ⟨hb, hs⟩ := Prod.mk.inj h
  dsimp only at hc hb hs ht
  subst hb
  have : c = c' := by rw [← peer_peer b c, hc, peer_peer]
  subst this
  have : k = k' := Fin.ext (by omega)
  rw [this]

theorem dest_all : Finset.univ.map ⟨dest, dest_injective⟩ = keys ×ˢ Finset.range 8 := by
  ext ⟨⟨d, b, s⟩, t⟩
  unfold keys
  simp only [Finset.mem_map, Finset.mem_univ, true_and, Finset.mem_product, Finset.mem_range, Function.Embedding.coeFn_mk]
  constructor
  · rintro ⟨⟨c, b', k⟩, h⟩
    obtain ⟨h, ht⟩ := Prod.mk.inj h
    obtain ⟨hc, h⟩ := Prod.mk.inj h
    obtain ⟨hb, hs⟩ := Prod.mk.inj h
    dsimp only at hs ht
    have := k.isLt
    omega
  · rintro ⟨hs, ht⟩
    refine ⟨(peer b d, b, ⟨4 * t + s, by omega⟩), ?_⟩
    show ((peer b (peer b d), b, (4 * t + s) % 4), (4 * t + s) / 4) = _
    rw [peer_peer, show (4 * t + s) % 4 = s by omega, show (4 * t + s) / 4 = t by omega]

/-- The rights to write a slot that a device holds in a direction. -/
def Writes (b : Bool) (c : Dev nD) : sProp 𝕄 := bigSep (Finset.Ico 0 32) fun k => writeTok ES (peer b c, b, k % 4) (k / 4 + 1)

omit [FloatOps F] in
theorem deal_writes : bigSep (keys ×ˢ Finset.range 8) (fun x => (writeTok ES x.1 (x.2 + 1) : sProp 𝕄))
    = bigSep Finset.univ fun c : Dev nD => iprop(Writes false c ∗ Writes true c) := by
  rw [← dest_all, deal]
  refine bigSep_congr fun c _ => ?_
  have h (b : Bool) : (bigSep Finset.univ fun k : Fin 32 => (writeTok ES (dest (c, b, k)).1 ((dest (c, b, k)).2 + 1) : sProp 𝕄)) = Writes b c := by
    unfold Writes
    rw [← bigSep_fin_Ico]
    rfl
  rw [bigSep_pair, h, h]

/-- A device's own slots. -/
def mine (x : Dev nD × Bool × Fin 4) : Key := (x.1, x.2.1, x.2.2.val)
theorem mine_injective : Function.Injective mine := fun ⟨c, b, k⟩ ⟨c', b', k'⟩ h => by
  obtain ⟨hc, h⟩ := Prod.mk.inj h
  obtain ⟨hb, hs⟩ := Prod.mk.inj h
  exact Prod.ext hc (Prod.ext hb (Fin.ext hs))
theorem mine_all : Finset.univ.map ⟨mine, mine_injective⟩ = keys := by
  ext ⟨d, b, s⟩
  unfold keys
  simp only [Finset.mem_map, Finset.mem_univ, true_and, Finset.mem_product, Finset.mem_range, Function.Embedding.coeFn_mk]
  constructor
  · rintro ⟨⟨c, b', k⟩, h⟩
    obtain ⟨hc, h⟩ := Prod.mk.inj h
    obtain ⟨hb, hs⟩ := Prod.mk.inj h
    exact hs ▸ k.isLt
  · exact fun h => ⟨(d, b, ⟨s, h⟩), rfl⟩

omit [FloatOps F] in
theorem deal_readers : bigSep keys (fun x => (readerAt ES x 0 : sProp 𝕄))
    = bigSep Finset.univ fun c : Dev nD => iprop((bigSep (Finset.range 4) fun s => readerAt ES (c, false, s) 0) ∗ bigSep (Finset.range 4) fun s => readerAt ES (c, true, s) 0) := by
  rw [← mine_all, deal]
  refine bigSep_congr fun c _ => ?_
  rw [bigSep_pair, bigSep_range4_fin, bigSep_range4_fin]
  rfl

/-! ## The cells -/

theorem osem_injective : Function.Injective osem := by decide +kernel
theorem own_injective : Function.Injective fun x : Dev nD × Bool × Fin 9 => (((x.1 : Thread nD τ), osem x.2) : GSem nD τ sig) := fun ⟨c, j⟩ ⟨c', j'⟩ h => by
  have h1 : c = c' := by have := congrArg (fun g : GSem nD τ sig => g.1.1) h; exact this
  exact Prod.ext h1 (osem_injective (congrArg Prod.snd h))
theorem bar_injective : Function.Injective barCell := fun c c' h => by
  have := congrArg (fun g : GSem nD τ sig => g.1.1) h; exact this

omit [FloatOps F] in
theorem deal_own (Φ : GSem nD τ sig → sProp 𝕄) :
    bigSep ownCells Φ = bigSep Finset.univ fun c : Dev nD => bigSep Finset.univ fun j : Bool × Fin 9 => Φ ((c : Thread nD τ), osem j) := by
  have h : ownCells = Finset.univ.map ⟨fun x : Dev nD × Bool × Fin 9 => (((x.1 : Thread nD τ), osem x.2) : GSem nD τ sig), own_injective⟩ := by
    rw [Finset.map_eq_image]; rfl
  rw [h, deal]
omit [FloatOps F] in
theorem deal_bar (Φ : GSem nD τ sig → sProp 𝕄) : bigSep barCells Φ = bigSep Finset.univ fun c : Dev nD => Φ (barCell c) := by
  have h : barCells = Finset.univ.map ⟨barCell, bar_injective⟩ := by rw [Finset.map_eq_image]; rfl
  rw [h, bigSep_map]; rfl

theorem cells_disjoint : Disjoint barCells ownCells := by
  rw [Finset.disjoint_left]
  intro g hg hg'
  obtain ⟨c, -, rfl⟩ := Finset.mem_image.mp hg
  obtain ⟨⟨d, j⟩, -, h⟩ := Finset.mem_image.mp hg'
  have hne : ∀ j : Bool × Fin 9, osem j ≠ .reg barS := by decide
  exact hne j (congrArg Prod.snd h)

/-! ## The credit of what is owed -/

/-- What a device will wait for in a direction without having started it. -/
def Creds (b : Bool) (c : Dev nD) : sProp 𝕄 := iprop(Due b c 0 ∗ bigSep (Finset.Ico 0 28) fun j => cred (tallyAt (credCell b c) j 1))

omit [FloatOps F] in
theorem cred_due (b : Bool) (c : Dev nD) :
    (Pipeline.launchCred (fun d => ∑ k ∈ Finset.Ico 0 32, tallyAt (recvCell b k (peer b d)) k N) c : sProp 𝕄) ⊢ Due b c 0 := by
  rw [Pipeline.launchCred_sum]
  exact bigSep_le _ _ _ fun k _ => Pipeline.launchCred_tallyAt (.dma (recvS b k)) (peer b) (peer b) (peer_peer b) (peer_peer b) k N c
omit [FloatOps F] in
theorem cred_report (b : Bool) (c : Dev nD) :
    (Pipeline.launchCred (fun d => ∑ k ∈ Finset.Ico 0 28, tallyAt (credCell b (peer b d)) k 1) c : sProp 𝕄)
      ⊢ bigSep (Finset.Ico 0 28) fun j => cred (tallyAt (credCell b c) j 1) := by
  rw [Pipeline.launchCred_sum]
  exact bigSep_le _ _ _ fun k _ => Pipeline.launchCred_tallyAt (.reg (credS b)) (peer b) (peer b) (peer_peer b) (peer_peer b) k 1 c
omit [FloatOps F] in
theorem cred_bar (b : Bool) (c : Dev nD) :
    (Pipeline.launchCred (fun d => tallyAt (barCell (peer b d)) 0 1) c : sProp 𝕄) ⊢ cred (tallyAt (barCell c) 0 1) :=
  Pipeline.launchCred_tallyAt (.reg barS) (peer b) (peer b) (peer_peer b) (peer_peer b) 0 1 c

omit [FloatOps F] in
/-- The credit the launch deals a device. -/
theorem deal_creds (c : Dev nD) :
    (Pipeline.launchCred O₀ c : sProp 𝕄) ⊢ iprop(Creds false c ∗ Creds true c ∗ cred (tallyAt (barCell c) 0 2)) := by
  have h : (Pipeline.launchCred O₀ c : sProp 𝕄) = _ := Pipeline.launchCred_add (fun d => Ow d 0 0 0 0 + tallyAt (barCell (peer true d)) 0 1) (fun d => tallyAt (barCell (peer false d)) 0 1) c
  rw [h, Pipeline.launchCred_add]
  unfold Ow
  rw [Pipeline.launchCred_add, Pipeline.launchCred_add, Pipeline.launchCred_add]
  unfold Creds
  iintro ⟨⟨⟨⟨⟨H1, H2⟩, H3⟩, H4⟩, H5⟩, H6⟩
  ihave H1 := (cred_due false c) $$ H1
  ihave H2 := (cred_due true c) $$ H2
  ihave H3 := (cred_report false c) $$ H3
  ihave H4 := (cred_report true c) $$ H4
  ihave H5 := (cred_bar true c) $$ H5
  ihave H6 := (cred_bar false c) $$ H6
  isplitl [H1 H3]
  · isplitl [H1] <;> iassumption
  isplitl [H2 H4]
  · isplitl [H2] <;> iassumption
  rw [show (tallyAt (barCell c) 0 2 : CellTallies nD τ sig ℕ) = tallyAt (barCell c) 0 1 + tallyAt (barCell c) 0 1 from (tallyAt_add _ _ 1 1).symm]
  iapply (cred_add _ _).2
  isplitl [H5] <;> iassumption

end Cert.KernelIdealProof

end
-- ==== Proof.Ideal.Region.lean ====
/- The kernel as @main's one segment: what is sorted out of the launch's share on entry, and what is put together again on exit. -/
module

public import proofs.«01_k».proof.Proof.Ideal.Data
public import proofs.«01_k».proof.Proof.Ideal.Deal
public import Idealize.ShloMosaic.Lib.Pipeline.Regions
public import Idealize.ShloMosaic.Lib.Pipeline.Kit

@[expose] public section

noncomputable section

namespace Cert.KernelIdealProof

open Cert.KernelIdeal Cert.KernelIdeal.Gen
open Idealize.ShloMosaic
open Idealize.ShloMosaic.TcCoe
open Idealize.ShloMosaic.Pipeline (Dat Cfg BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

/-! ## The windows' arrays and the landing buffers -/

/-- A buffer of device `c`, whole. -/
abbrev pt (c : Dev nD) (b : Ref sig .tc) (q : PosShare TreeShare) (f : Buf (Elt F) ((c : Thread nD τ).loc b)) : sProp 𝕄 := (c : Thread nD τ).loc b ↦{q} f

theorem arrays_eq (c : Dev nD) (Fa) : ((pdats m 0 c).arrays Fa : sProp 𝕄) = iprop(pt c main_arg0 fullShare.left (Fa 0) ∗ pt c main_v1 fullShare (Fa 1)) := by
  show (dat m c).arrays Fa = _
  unfold Dat.arrays
  rw [bigSep_W0]
  have h0 := (Memref.isWhole_whole (κ := .tc) main_arg0).set_eq_univ
  have h1 := (Memref.isWhole_whole (κ := .tc) main_v1).set_eq_univ
  show iprop(((Memref.whole main_arg0).view.loc (c : Thread nD τ) ↦[(Memref.whole main_arg0).view.set]{fullShare.left} Fa 0)
    ∗ ((Memref.whole main_v1).view.loc (c : Thread nD τ) ↦[(Memref.whole main_v1).view.set]{fullShare} Fa 1)) = _
  rw [h0, h1]

theorem prefHeld_eq (c : Dev nD) (q) (pf) :
    (Pipeline.prefHeld (Ix := ℕ) (Name := ℕ) (U := UU) (Lvl := ℕ) (Val := Elt F) (pcfgs (F := F) 0).pre c q pf : sProp 𝕄) = BI.emp :=
  bigSep_univ_eq_bigSepL (I := Fin 0) [] (by decide) (by decide) _

omit [FloatOps F] in
theorem Scr_eq (c : Dev nD) (b : Bool) : Scr (F := F) c b = iprop(∃ f, (scrM b).view.loc (c : Thread nD τ) ↦{fullShare} f) := by
  unfold Scr
  cases b
  · rw [show (scrM false).view.set = Finset.univ from (Memref.isWhole_whole (κ := .tc) cc0_scratch0).set_eq_univ]
  · rw [show (scrM true).view.set = Finset.univ from (Memref.isWhole_whole (κ := .tc) cc0_scratch1).set_eq_univ]
theorem scopedRest_eq (c : Dev nD) :
    (Pipeline.scopedRest (Ix := ℕ) (Name := ℕ) (U := UU) (Lvl := ℕ) (Val := Elt F) (Pipeline.pin (pcfgs (F := F)) adm 0).spec c : sProp 𝕄)
      = iprop(Scr c false ∗ Scr c true) := by
  rw [Scr_eq, Scr_eq]
  exact scopedRest0_eq c

/-! ## The waits of the pipeline's own copies -/

theorem lv_pos_of_owed {c : Dev nD} {n : ℕ} {g : GSem nD τ sig} {i : ℕ} (h : 0 < owedAt c n g i) : i ∈ L g ∧ 0 < lv g i := by
  have hO : ∀ a y d e, 0 < Ow c a y d e g i → i ∈ L g ∧ 0 < lv g i := fun a y d e h => by
    rcases Ow_pos h with ⟨k, -, hk, rfl, rfl⟩ | ⟨k, -, hk, rfl, rfl⟩ | ⟨b, k, -, hk, rfl, rfl⟩
    · rw [L_tc, lv_recv_x]; exact ⟨Finset.mem_range.mpr hk, by omega⟩
    · rw [L_tc, lv_recv_y]; exact ⟨Finset.mem_range.mpr hk, by omega⟩
    · rw [L_tc, lv_cred]; exact ⟨Finset.mem_range.mpr (by omega), by omega⟩
  unfold owedAt at h
  by_cases h0 : n = 0
  · rw [if_pos h0] at h
    unfold O₀ at h
    rcases Pipeline.add_pos_cases h with h | h
    · rcases Pipeline.add_pos_cases h with h | h
      · exact hO _ _ _ _ h
      · obtain ⟨rfl, rfl⟩ := Pipeline.tallyAt_pos h
        rw [L_tc, lv_bar]; exact ⟨Finset.mem_range.mpr (by decide), by decide⟩
    · obtain ⟨rfl, rfl⟩ := Pipeline.tallyAt_pos h
      rw [L_tc, lv_bar]; exact ⟨Finset.mem_range.mpr (by decide), by decide⟩
  · rw [if_neg h0] at h
    exact hO _ _ _ _ h

/-- A staging semaphore plays no part in the kernel's own agreement. -/
theorem role_stage : ∀ (w : Fin 2) (s : Fin (spec0 w).nbuf), role (.dma ((spec0 w).sem s)) = .other := by decide

theorem mayWait_stage (c : Dev nD) (w : Fin 2) (s : Fin (spec0 w).nbuf) (n : ℕ) :
    (levAts L lv : sProp 𝕄) ⊢ MayWait (c : Thread nD τ) (.dma ((spec0 w).sem s)) 0 (owedAt c n) :=
  Pipeline.mayWait_of_levAts (by rw [L_tc]; exact Finset.mem_range.mpr (by decide)) fun g i h => by
    have h' := lv_pos_of_owed h
    refine ⟨h'.1, ?_⟩
    rw [show lv ((c : Thread nD τ), .dma ((spec0 w).sem s)) 0 = 0 from by unfold lv; rw [role_stage]]
    exact h'.2

theorem ownSemFacts : Pipeline.OwnSemFacts spec0 osem := by decide

/-! ## The segment -/

/-- What the launch deals a device for the kernel's own synchronization, its semaphores not yet opened. -/
def Share (c : Dev nD) : sProp 𝕄 :=
  iprop((bigSep Finset.univ fun j : Bool × Fin 9 => openTok ER ((c : Thread nD τ), osem j))
    ∗ ((bigSep (Finset.range 4) fun s => readerAt ES (c, false, s) 0) ∗ bigSep (Finset.range 4) fun s => readerAt ES (c, true, s) 0)
    ∗ (Toks false c ∗ Toks true c) ∗ (Writes false c ∗ Writes true c) ∗ (Creds false c ∗ Creds true c ∗ cred (tallyAt (barCell c) 0 2))
    ∗ atPos ER (barCell c) 0 ∅ 0 ∗ reached ER (barCell (peer false c)) 0 ∗ reached ER (barCell (peer true c)) 0)

/-- On entry: the shared facts, the device's share, the argument and the result's buffer, and what the device owes. -/
def T₀ (c : Dev nD) : sProp 𝕄 :=
  iprop(∃ κ ι, Ctx m κ ι ∗ Share c ∗ pt c main_arg0 fullShare (xv m c) ∗ pt c main_v1 fullShare (m ((c : Thread nD τ).loc main_v1)) ∗ owes (c : Thread nD τ) (O₀ c) ∅)
/-- On exit: the argument as it was, at some share, the result, the barrier's counter at zero. -/
def Tₙ (c : Dev nD) : sProp 𝕄 := iprop(pt c main_arg0 fullShare.left (xv m c) ∗ pt c main_v1 fullShare (resv m c) ∗ semVal (barCell c) 0)

theorem Rights_intro (b : Bool) (c : Dev nD) :
    iprop((bigSep (Finset.Ico 0 32) fun k => dutyTok ER (sendCell b k c) (k / 4) 0) ∗ (bigSep (Finset.Ico 0 32) fun k => dutyTok ER (recvCell b k (peer b c)) (k / 4) 0)
      ∗ Writes b c) ⊢ Rights (F := F) b c 0 := by
  unfold Rights Right Writes
  rw [bigSep_sep', bigSep_sep']

/-- A device's own semaphores are opened, and its share is sorted by direction. -/
theorem raw_intro (κ ι) (c : Dev nD) : iprop(Ctx m κ ι ∗ Share c ∗ Arg m c ∗ bigSep Finset.univ fun j : Bool × Fin 9 => semVal ((c : Thread nD τ), osem j) 0)
    ⊢ |={Set.univ}=> Raw m c := by
  unfold Share Toks Creds
  iintro ⟨#Hc, ⟨Ho, ⟨Rx, Ry⟩, ⟨⟨X1, X2, X3, X4⟩, Y1, Y2, Y3, Y4⟩, ⟨Wx, Wy⟩, ⟨⟨Cx1, Cx2⟩, ⟨Cy1, Cy2⟩, Cb⟩, Hb, Bx, By⟩, HA, Hs⟩
  have hcells : iprop(Ctx m κ ι ∗ bigSep Finset.univ fun j : Bool × Fin 9 => openTok ER ((c : Thread nD τ), osem j))
      ⊢ bigSep Finset.univ fun j : Bool × Fin 9 => iprop(cellInv ER (Rd m) (κ ((c : Thread nD τ), osem j)) ((c : Thread nD τ), osem j) ∗ openTok ER ((c : Thread nD τ), osem j)) :=
    (sep_mono_left (BI.bigSep_of_persistent Finset.univ (Ctx m κ ι))).trans (by
      rw [← bigSep_sep']
      exact bigSep_mono fun j _ => sep_mono_left (ctx_cell m κ ι (mem_own ⟨j, rfl⟩)))
  ihave Ho := hcells $$ [Ho]
  · isplitl []; · iexact Hc
    iexact Ho
  imod (cells_open ER (Rd m) Finset.univ (fun j : Bool × Fin 9 => (((c : Thread nD τ), osem j) : GSem nD τ sig)) (fun j => κ ((c : Thread nD τ), osem j))
    (Es := Set.univ) (fun _ _ => Set.mem_univ _)) $$ [Ho Hs] with Ho
  · isplitl [Ho]; · iexact Ho
    iexact Hs
  imodintro
  ihave Ho := (own_split (fun sm => iprop(atPos ER ((c : Thread nD τ), sm) 0 ∅ 0 ∗ reached ER ((c : Thread nD τ), sm) 0))) $$ Ho
  icases Ho with ⟨Ox, Oy⟩
  ihave X := (Rights_intro false c) $$ [X1 X2 Wx]
  · isplitl [X1]; · iexact X1
    isplitl [X2]; · iexact X2
    iexact Wx
  ihave Y := (Rights_intro true c) $$ [Y1 Y2 Wy]
  · isplitl [Y1]; · iexact Y1
    isplitl [Y2]; · iexact Y2
    iexact Wy
  unfold Raw RawDir
  isplitl [Ox Rx X X3 Cx1 Cx2]
  · isplitl [Ox]; · iexact Ox
    isplitl [Rx]; · iexact Rx
    isplitl [X]; · iexact X
    isplitl [Cx1]; · iexact Cx1
    isplitl [X3]; · iexact X3
    iexact Cx2
  isplitl [Oy Ry Y Y3 Cy1 Cy2]
  · isplitl [Oy]; · iexact Oy
    isplitl [Ry]; · iexact Ry
    isplitl [Y]; · iexact Y
    isplitl [Cy1]; · iexact Cy1
    isplitl [Y3]; · iexact Y3
    iexact Cy2
  isplitr [HA]
  · isplitl [Hb]; · iexact Hb
    isplitl [Cb]; · iexact Cb
    isplitl [X4 Bx]
    · isplitl [X4]; · iexact X4
      iexact Bx
    isplitl [Y4]; · iexact Y4
    iexact By
  iexact HA

theorem entry (c : Dev nD) : iprop(T₀ m c ∗ Pipeline.ownSems0 osem c ∗ levAts L lv)
    ⊢ |={Set.univ}=> iprop((pdats m 0 c).arrays ((pdats m 0 c).arrAt · 0)
      ∗ Pipeline.prefHeld (pcfgs (F := F) 0).pre c (fun _ => fullShare) (adm (F := F) 0).1
      ∗ (pdats m 0 c).owesAt 0 0 ∗ (∃ κ ι, Ctx m κ ι ∗ Raw m c) ∗ emp) := by
  rw [arrays_eq, prefHeld_eq]
  unfold T₀ Pipeline.ownSems0
  iintro ⟨⟨%κ, %ι, #Hc, HS, Hx, Hv, HO⟩, Hs, -⟩
  ihave Hx2 := (pointsTo_share (PosShare.mem_left_op_right fullShare)).1 $$ Hx
  icases Hx2 with ⟨HxL, HxR⟩
  imod (raw_intro m κ ι c) $$ [HS HxR Hs] with HR
  · isplitl []; · iexact Hc
    isplitl [HS]; · iexact HS
    isplitl [HxR]
    · unfold Arg; iexists fullShare.right; iexact HxR
    iexact Hs
  imodintro
  isplitl [HxL Hv]
  · isplitl [HxL]; · iexact HxL
    iexact Hv
  isplitl []; · iempintro
  isplitl [HO]
  · iapply (owesAt_intro m c 0)
    unfold Owes
    iexists ∅
    iexact HO
  isplitl [HR]
  · iexists κ; iexists ι
    isplitl []; · iexact Hc
    iexact HR
  iempintro

theorem start_in (c : Dev nD) : iprop((∃ κ ι, Ctx m κ ι ∗ Raw m c) ∗ Pipeline.prefHeld (pcfgs (F := F) 0).pre c (fun _ => fullShare) (adm (F := F) 0).1
    ∗ Pipeline.scopedRest (Pipeline.pin (pcfgs (F := F)) adm 0).spec c) ⊢ (pdats m 0 c).Φ 0 := by
  rw [scopedRest_eq]
  show _ ⊢ Phi m c 0
  unfold Phi
  rw [if_neg (by decide), if_pos rfl]
  iintro ⟨⟨%κ, %ι, #Hc, HR⟩, -, HS⟩
  iexists κ; iexists ι
  isplitl []; · iexact Hc
  isplitl [HR]; · iexact HR
  iexact HS

theorem done_out (c : Dev nD) : (pdats m 0 c).Φ (Fin.last _)
    ⊢ iprop((semVal (barCell c) 0 ∗ Arg m c) ∗ Pipeline.ownSems0 osem c ∗ Pipeline.scopedRest (Pipeline.pin (pcfgs (F := F)) adm 0).spec c) := by
  rw [scopedRest_eq]
  show Phi m c 34 ⊢ _
  unfold Phi Done Pipeline.ownSems0
  rw [if_pos rfl]
  iintro ⟨HB, HO, HS⟩
  isplitl [HB]; · iexact HB
  isplitl [HO]; · iapply (own_join (fun sm => semVal ((c : Thread nD τ), sm) 0)); iexact HO
  iexact HS

theorem owed_last (c : Dev nD) : owedAt c 34 = 0 := by
  show Ow c 32 32 32 32 = 0
  unfold Ow
  rw [Finset.Ico_self, Finset.Ico_eq_empty_of_le (show 28 ≤ 32 by decide)]
  simp

theorem exit_ (c : Dev nD) : iprop((pdats m 0 c).arrays ((pdats m 0 c).arrAt · cfg0.N) ∗ (pdats m 0 c).owesAt 0 (Fin.last _) ∗ (semVal (barCell c) 0 ∗ Arg m c) ∗ emp)
    ⊢ |={Set.univ}=> iprop(Tₙ m c ∗ ∃ W, owes (c : Thread nD τ) (0 : CellTallies nD τ sig ℕ) W) := by
  rw [arrays_eq]
  have h0 : (pdats m 0 c).arrAt 0 cfg0.N = xv m c := (dat m c).arrAt_in 0 rfl _
  have h1 : (pdats m 0 c).arrAt 1 cfg0.N = resv m c := arr0_1 m c
  rw [h0, h1]
  have hO : (pdats m 0 c).owesAt 0 (Fin.last _) ⊢ (Owes c 0 : sProp 𝕄) := by
    rw [← owed_last c]; exact owesAt_elim m c (Fin.last _)
  iintro ⟨⟨Hx, Hv⟩, HO, ⟨HB, -⟩, -⟩
  ihave HO := hO $$ HO
  unfold Tₙ Owes
  imodintro
  isplitr [HO]
  · isplitl [Hx]; · iexact Hx
    isplitl [Hv]; · iexact Hv
    iexact HB
  iexact HO

set_option backward.proofsInPublic true in
/-- The kernel's segment of @main. -/
def reg : Pipeline.RegionSeg (pcfgs (F := F)) adm (pdats m) 0 defs₀ Variants.none L lv 0 where
  win := winFacts0.to₀
  block_pos := block_pos0
  stage_whole := stage_whole0
  K := Bool × Fin 9
  osem := osem
  ho := ownSemFacts
  hbody c := (body m c).loose
  hwaits c := Pipeline.cellsWaits_intro _ (pdats m) 0 0 c fun w s t => mayWait_stage c w s t.val
  pre := T₀ m
  post c := iprop(Tₙ m c ∗ ∃ W, owes (c : Thread nD τ) (0 : CellTallies nD τ sig ℕ) W)
  X c := iprop(∃ κ ι, Ctx m κ ι ∗ Raw m c)
  Y c := iprop(semVal (barCell c) 0 ∗ Arg m c)
  Z _ := iprop(emp)
  hentry := entry m
  hin := start_in m
  hout := done_out m
  hexit := exit_ m

end Cert.KernelIdealProof

end
-- ==== Proof.Ideal.Launch.lean ====
/- The run: the launch's share is dealt to the devices, and the final states are read off what they end with. -/
module

public import proofs.«01_k».proof.Proof.Ideal.Region
public import Idealize.ShloMosaic.Lib.Quiescent

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The launch's elements -/

/-- The launch element of the kernel's rounds and slots, given to one device to hand round. -/
def G (c : Dev nD) : sProp 𝕄 :=
  if c = 0 then iprop(BI.own (ER (launchOf barCells ownCells toks)) ∗ BI.own (ES (initSlots keys 8))) else iprop(emp)

omit [FloatOps F] in
theorem G_intro : iprop(BI.own (ER (launchOf barCells ownCells toks)) ∗ BI.own (ES (initSlots keys 8))) ⊢ (bigSep Finset.univ G : sProp 𝕄) := by
  rw [bigSep_univ_at G 0]
  have h : bigSep (Finset.univ.erase 0) G = (bigSep (Finset.univ.erase 0) fun _ : Dev nD => (iprop(emp) : sProp 𝕄)) :=
    bigSep_congr fun c hc => if_neg (Finset.ne_of_mem_erase hc)
  rw [h]
  iintro H
  isplitl [H]
  · unfold G; rw [if_pos rfl]; iexact H
  iapply (BI.bigSep_of_persistent (Finset.univ.erase (0 : Dev nD)) (iprop(emp) : sProp 𝕄))
  iempintro
omit [FloatOps F] in
theorem G_elim : (bigSep Finset.univ G : sProp 𝕄) ⊢ iprop(BI.own (ER (launchOf barCells ownCells toks)) ∗ BI.own (ES (initSlots keys 8))) := by
  refine (bigSep_elim (Finset.mem_univ (0 : Dev nD))).trans ?_
  unfold G
  rw [if_pos rfl]
  exact BI.Entails.refl _

def u₀ : UU :=
  (initOf (Pipeline.cells (Pipeline.pin (pcfgs (F := F)) adm) cellOf_inj) (Pipeline.launchToks (Pipeline.pin (pcfgs (F := F)) adm) cellOf_inj),
    (launchOf barCells ownCells toks, initSlots keys 8))

/-! ## Dealing it -/

omit [FloatOps F] in
/-- What every device may read stands beside each device's share. -/
theorem beside {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- What the launch hands a device besides its synchronization. -/
def Bufs (c : Dev nD) : sProp 𝕄 :=
  iprop(pt c main_arg0 fullShare (xv m c) ∗ pt c main_v1 fullShare (m ((c : Thread nD τ).loc main_v1)) ∗ owes (c : Thread nD τ) (O₀ c) ∅
    ∗ Creds false c ∗ Creds true c ∗ cred (tallyAt (barCell c) 0 2))

theorem at_launch (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(semVal (barCell c) 0 ∗ G c ∗ Bufs m c) : sProp 𝕄) := by
  unfold unscopedBufs unscopedSems0 Bufs
  rw [bigSep_eq_bigSepL_of_eq [SemLoc.reg barS] (by decide) (by decide), bigSep_eq_bigSepL_of_eq [main_arg0, main_v1] (by decide) (by decide)]
  show iprop((pt c main_arg0 fullShare (xv m c) ∗ pt c main_v1 fullShare (m ((c : Thread nD τ).loc main_v1))) ∗ semVal (barCell c) 0
    ∗ owes (c : Thread nD τ) (O₀ c) ∅ ∗ Pipeline.launchCred O₀ c ∗ prngReg c (ρ c) ∗ G c) ⊢ _
  iintro ⟨⟨Hx, Hv⟩, Hs, HO, Hcr, -, HG⟩
  ihave Hc := (deal_creds c) $$ Hcr
  isplitl [Hs]; · iexact Hs
  isplitl [HG]; · iexact HG
  isplitl [Hx]; · iexact Hx
  isplitl [Hv]; · iexact Hv
  isplitl [HO]; · iexact HO
  iexact Hc

/-- The reached marks of the barrier cells, as every device reads them. -/
def Marks : sProp 𝕄 := bigSep barCells fun g => reached ER g 0
instance Marks_persistent : BI.Persistent (Marks (F := F)) := by unfold Marks; infer_instance

omit [FloatOps F] in
theorem mark (c : Dev nD) : Marks (F := F) ⊢ reached ER (barCell c) 0 := by
  unfold Marks
  exact bigSep_elim (Finset.mem_image_of_mem _ (Finset.mem_univ c))

theorem T₀_intro (κ ι) (c : Dev nD) : iprop((Ctx m κ ι ∗ Marks) ∗ ((bigSep Finset.univ fun j : Bool × Fin 9 => openTok ER ((c : Thread nD τ), osem j))
      ∗ ((bigSep (Finset.range 4) fun s => readerAt ES (c, false, s) 0) ∗ bigSep (Finset.range 4) fun s => readerAt ES (c, true, s) 0)
      ∗ (Toks false c ∗ Toks true c) ∗ (Writes false c ∗ Writes true c) ∗ atPos ER (barCell c) 0 ∅ 0 ∗ Bufs m c))
    ⊢ T₀ m c := by
  unfold T₀ Share Bufs
  iintro ⟨⟨#Hc, #HM⟩, Ho, HR, HT, HW, Hb, Hx, Hv, HO, HC⟩
  iexists κ; iexists ι
  isplitl []; · iexact Hc
  isplitr [Hx Hv HO]
  · isplitl [Ho]; · iexact Ho
    isplitl [HR]; · iexact HR
    isplitl [HT]; · iexact HT
    isplitl [HW]; · iexact HW
    isplitl [HC]; · iexact HC
    isplitl [Hb]; · iexact Hb
    isplitl []; · iapply (mark (peer false c)); iexact HM
    iapply (mark (peer true c)); iexact HM
  isplitl [Hx]; · iexact Hx
  isplitl [Hv]; · iexact Hv
  iexact HO

/-- What the launch deals is every device's share. -/
theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ (|={Set.univ}=> bigSep Finset.univ (T₀ m) : sProp 𝕄) := by
  refine (sep_mono_left (bigSep_mono fun c _ => at_launch m ρ c)).trans ?_
  rw [bigSep_sep', bigSep_sep', ← deal_bar fun g => semVal g 0]
  iintro ⟨⟨Hs, HG, HB⟩, #Hl⟩
  ihave HG := G_elim $$ HG
  icases HG with ⟨HER, HES⟩
  imod (fund_launch ER (Rd m) cells_disjoint (fun _ _ h => h) toks (Es := Set.univ)) $$ [Hs HER] with ⟨%κ, -, #Hcells, #Hmarks, Hat, Hopen, Htoks⟩
  · isplitl [Hs]; · iexact Hs
    iexact HER
  imod (slots_init ES keys 8 Sl (Es := Set.univ)) $$ HES with ⟨%ι, -, #Hslots, Hread, Hwrite⟩
  imodintro
  ihave Hat := (Entails.of_eq (deal_bar fun g => atPos ER g 0 ∅ 0)) $$ Hat
  ihave Hopen := (Entails.of_eq (deal_own fun g => openTok ER g)) $$ Hopen
  ihave Htoks := (Entails.of_eq deal_toks) $$ Htoks
  ihave Hwrite := (Entails.of_eq deal_writes) $$ Hwrite
  ihave Hread := (Entails.of_eq deal_readers) $$ Hread
  ihave Hread := (Entails.of_eq (bigSep_sep' _ _ _)) $$ Hread
  ihave Htoks := (Entails.of_eq (bigSep_sep' _ _ _)) $$ Htoks
  ihave Hwrite := (Entails.of_eq (bigSep_sep' _ _ _)) $$ Hwrite
  iapply (beside (T₀_intro m κ ι))
  isplitl []
  · isplitl []
    · unfold Ctx
      isplitl []; · iexact Hl
      isplitl []; · iexact Hcells
      iexact Hslots
    unfold Marks
    iexact Hmarks
  simp only [bigSep_sep']
  isplitl [Hopen]; · iexact Hopen
  isplitl [Hread]; · iexact Hread
  isplitl [Htoks]; · iexact Htoks
  isplitl [Hwrite]; · iexact Hwrite
  isplitl [Hat]; · iexact Hat
  iexact HB

/-! ## The run -/

set_option backward.isDefEq.respectTransparency.types false in
/-- From any memory with every counter at zero, every run of the sixteen devices terminates, with each device's argument as
    it was, its result the sum of its argument and the other half's, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v1) = resv m c) ∧ r.2.sem = fun _ => 0) :=
  Pipeline.θ_run_regions_kit_sems (pcfgs (F := F)) adm (pdats m) 0 cellOf_inj EP defs₀ Variants.none L lv m ρ main [.region (reg m)]
    (fun c Q => by rw [main_segs adm (pdats m) 0 Variants.none L lv (reg m) c])
    (by simp only [Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      ihave HX := (own_pair_emb embR _ _) $$ HX
      imodintro
      isplitl [HP]; · iexact HP
      iapply G_intro
      iexact HX)
    (T₀ := T₀ m) (Tₙ := Tₙ m)
    (hch := ⟨fun c => .rfl, fun c => .rfl⟩)
    (hinit := init m ρ)
    (QY := fun c s => (s.mem ((c : Thread nD τ).loc main_arg0) = xv m c ∧ s.mem ((c : Thread nD τ).loc main_v1) = resv m c) ∧ s.sem (barCell c) = 0)
    (hfin := fun c s' => by
      unfold Tₙ
      iintro ⟨⟨Hx, Hv, Hb⟩, HSI⟩
      icombine HSI Hx gives %hx
      icombine HSI Hv gives %hv
      icombine HSI Hb gives %hb
      imodintro
      isplitr
      · ipureintro
        exact ⟨⟨Buf.eq_of_forall_mem_univ hx, Buf.eq_of_forall_mem_univ hv⟩, hb⟩
      iexact HSI)
    (hQ := fun s h hs => ⟨fun c => (h c).1, sem_eq_zero hs fun c sm hsm => by
      have hbar : ∀ sm : SemLoc sig, sm.isScoped .tc = false → sm = .reg barS := by decide
      rw [hbar sm hsm]
      exact (h c).2⟩)

end Cert.KernelIdealProof

end
-- ==== Proof.Ideal.Value.lean ====
/- The result against the reference: at exact arithmetic, a device's sum of its block and the other half's is the reference's sum over the two halves. -/
module

public import proofs.«01_k».proof.Proof.Ideal.Data
public import proofs.«01_k».proof.Proof.Gen.ReferenceIdeal
public import Idealize.ShloMosaic.Lib.Layout
public import Idealize.ShloMosaic.Lib.Pointwise
public import Idealize.ShloMosaic.Lib.IdealHost

@[expose] public section

noncomputable section

namespace Cert.KernelIdealProof

open Cert.KernelIdeal Cert.KernelIdeal.Gen
open Idealize.ShloMosaic
open Idealize.ShloMosaic.TcCoe
open Idealize.SL.Sem

/-- The whole array's index of row `x 0` of half `k`. -/
def row (k : Fin 2) (x : S32768x1024.Idx) : Cert.ReferenceIdeal.S65536x1024.Idx :=
  ix2 ⟨k.val * 32768 + (x 0).val, by have := k.isLt; have : (x 0).val < 32768 := (x 0).isLt; omega⟩ (x 1)

/-- The reference's result at an index: the two halves' sum. -/
theorem ref_apply (A : Cert.ReferenceIdeal.S65536x1024.Idx → EReal) (h1 h2 h3) (x : S32768x1024.Idx) :
    (Host.reduceAdd (F := Ideal) (φ := .f32) (shapeCast Cert.ReferenceIdeal.S2x32768x1024 A h1) (constant Cert.ReferenceIdeal.S_ .f32 0x00000000#32) (axes := [0]) (t := S32768x1024) h2 h3) x
      = A (row 0 x) + A (row 1 x) := by
  simp only [pointwise, Ideal.hostReduceAdd_def]
  rw [Fin.sum_univ_two, zero_add]
  rfl

/-- The half a device holds. -/
theorem half_apply (A : Cert.ReferenceIdeal.S65536x1024.Idx → EReal) (c : Dev nD) (x : S32768x1024.Idx) :
    (Layout.blockN ⟨2, ![32768, 1024]⟩ ⟨2, ![65536, 1024]⟩ (Layout.meshBlock [2, 2, 4] ![[0], []] c) A) x = A (row ⟨c.val / 8, by have : c.val < 16 := c.isLt; omega⟩ x) := by
  rw [Layout.blockN_apply]
  refine congrArg A (funext fun b => Fin.ext ?_)
  rw [Layout.TilesN.idx_val]
  have hm : ∀ c : Fin 16, ((Layout.meshBlock [2, 2, 4] ![[0], []] c) (0 : Fin 2)).val = c.val / 8 ∧ ((Layout.meshBlock [2, 2, 4] ![[0], []] c) (1 : Fin 2)).val = 0 := by decide
  fin_cases b
  · show ((Layout.meshBlock [2, 2, 4] ![[0], []] c) (0 : Fin 2)).val * 32768 + (x 0).val = c.val / 8 * 32768 + (x 0).val
    exact congrArg (fun n => n * 32768 + (x 0).val) (hm c).1
  · show ((Layout.meshBlock [2, 2, 4] ![[0], []] c) (1 : Fin 2)).val * 1024 + (x 1).val = (x 1).val
    exact (congrArg (fun n => n * 1024 + (x 1).val) (hm c).2).trans (by omega)

/-- Whoever's block is added holds the other half. -/
theorem who_half (c : Dev nD) (r : ℕ) : (who c r).val / 8 = 1 - c.val / 8 := by
  have h : ∀ (b : Bool) (c : Fin 16), (orig b c).val / 8 = 1 - c.val / 8 := by decide
  exact h _ c

/-- A device's result is the reference's. -/
theorem resv_eq (m : (ℓ : Loc nD τ sig) → Buf (Elt Ideal) ℓ) (A : Cert.ReferenceIdeal.S65536x1024.Idx → EReal)
    (hm : ∀ c : Dev nD, m ((c : Thread nD τ).loc main_arg0) = Layout.blockN ⟨2, ![32768, 1024]⟩ ⟨2, ![65536, 1024]⟩ (Layout.meshBlock [2, 2, 4] ![[0], []] c) A)
    (h1 h2 h3) (c : Dev nD) :
    resv m c = Host.reduceAdd (F := Ideal) (φ := .f32) (shapeCast Cert.ReferenceIdeal.S2x32768x1024 A h1) (constant Cert.ReferenceIdeal.S_ .f32 0x00000000#32) (axes := [0]) (t := S32768x1024) h2 h3 := by
  funext x
  rw [ref_apply]
  have hx (d : Dev nD) (k : Fin 2) (hk : d.val / 8 = k.val) : xv m d x = A (row k x) := by
    refine (congrFun (hm d) x).trans ((half_apply A d x).trans (congrArg (fun k => A (row k x)) (Fin.ext hk)))
  have hc : c.val < 16 := c.isLt
  show FloatOps.addf (F := Ideal) (φ := .f32) (xv m c x) (xv m (who c ((x 0).val % 1024)) x) = _
  have hw := who_half c ((x 0).val % 1024)
  by_cases h : c.val / 8 = 0
  · rw [hx c 0 h, hx _ 1 (by rw [hw, h]; rfl)]
    rfl
  · rw [hx c 1 (by show c.val / 8 = 1; omega), hx _ 0 (by rw [hw]; show 1 - c.val / 8 = 0; omega)]
    exact add_comm _ _

end Cert.KernelIdealProof

end
-- ==== Proof.lean ====
/- The five claims, assembled: the two runs of the kernel (Bits.Launch at the machine's floats, Ideal.Launch at exact
   arithmetic), the reference's run, and the equation of their results (Ideal.Value). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Launch
public import proofs.«01_k».proof.Proof.Ideal.Launch
public import proofs.«01_k».proof.Proof.Ideal.Value
public import Idealize.ShloMosaic.Adequacy
public import Idealize.ShloMosaic.Init

@[expose] public section

noncomputable section

namespace Cert.Proof

open Idealize.ShloMosaic Idealize.SL.Sem Cert.Kernel

/-- The compiled program: its run at the machine's float values. -/
theorem quiescent_kernel : quiescent_Kernel := fun m g _ =>
  (θ_run _ _ _).mono (fun _ h => ⟨fun c => (h.1 c).1, h.2⟩) (Cert.KernelProof.run_main (F := Bits) m g)

/-- The program at exact arithmetic: the same run. -/
theorem quiescent_kernelIdeal : quiescent_KernelIdeal := fun m g _ =>
  (θ_run _ _ _).mono (fun _ h => ⟨fun c => (h.1 c).1, h.2⟩) (Cert.KernelIdealProof.run_main (F := Ideal) m g)

/-- The reference has no semaphore. -/
theorem no_sems : ∀ _ : SemLoc Cert.ReferenceIdeal.sig, False := by decide

/-- The reference: a host program, with no counter to change. -/
theorem quiescent_referenceIdeal : quiescent_ReferenceIdeal := fun m g _ =>
  (θ_run _ _ _).mono (fun _ h => ⟨fun c => (h c).2, funext fun s => (no_sems s.2).elim⟩) (Cert.ReferenceIdeal.Value.run (F := Ideal) m g)

/-- Every device's result is the sum of the two halves. -/
theorem algebraic : algebraic_KernelIdeal_ReferenceIdeal := fun m g m' g' _ hm =>
  ⟨_, (θ_run _ _ _).mono (fun _ h c => ⟨(h.1 c).2.trans (Cert.KernelIdealProof.resv_eq m _ hm _ _ _ c), (h.1 c).1⟩) (Cert.KernelIdealProof.run_main (F := Ideal) m g),
    (θ_run _ _ _).mono (fun _ h => h 0) (Cert.ReferenceIdeal.Value.run (F := Ideal) m' g')⟩

/-- The certificate. -/
theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
